-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_padded [hPre_padded : Cert.Pre_padded.Facts] (m : (ℓ : Loc Cert.KernelIdeal.nD Cert.KernelIdeal.τ Cert.KernelIdeal.sig) → Buf (Elt Ideal) ℓ) : Prop :=
  ∀ c : Dev Cert.KernelIdeal.nD,
    (Cert.Pre_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padded [hPre_padded : Cert.Pre_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_padded [hKernelIdeal : Cert.KernelIdeal.Facts] [hPre_padded : Cert.Pre_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_padded [hReferenceIdeal : Cert.ReferenceIdeal.Facts] [hPre_padded : Cert.Pre_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S576x2x512 Cert.KernelIdeal.S576x1x512
  ∧ IdealRules.bf16_pair.Statement Cert.KernelIdeal.S1152x512 Cert.KernelIdeal.S576x512
  ∧ IdealRules.bf16_pair.Statement Cert.KernelIdeal.S576x2x512 Cert.KernelIdeal.S576x1x512

def algebraic_KernelIdeal_ReferenceIdeal_pre_padded [hKernelIdeal : Cert.KernelIdeal.Facts] [hReferenceIdeal : Cert.ReferenceIdeal.Facts] [hPre_padded : Cert.Pre_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_padded : Cert.Pre_padded.Facts),
    quiescent_Kernel (hKernel := hKernel) (hPre_in_range := hPre_in_range)
    ∧ quiescent_KernelIdeal (hKernelIdeal := hKernelIdeal) (hPre_in_range := hPre_in_range)
    ∧ quiescent_KernelIdeal_pre_padded (hKernelIdeal := hKernelIdeal) (hPre_padded := hPre_padded)
    ∧ quiescent_ReferenceIdeal (hReferenceIdeal := hReferenceIdeal)
    ∧ quiescent_ReferenceIdeal_pre_padded (hReferenceIdeal := hReferenceIdeal) (hPre_padded := hPre_padded)
    ∧ preserves_Kernel_KernelIdeal
    ∧ algebraic_KernelIdeal_ReferenceIdeal_pre_padded (hKernelIdeal := hKernelIdeal) (hReferenceIdeal := hReferenceIdeal) (hPre_padded := hPre_padded)
-- ==== Pre_in_range.lean ====
abbrev S6144x5760 : Shape := ⟨2, ![6144, 5760]⟩
abbrev S6144x2944 : Shape := ⟨2, ![6144, 2944]⟩
abbrev S6 : Shape := ⟨1, ![6]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : IVec S6144x5760 32) (main_arg1 : IVec S6144x2944 32) (main_arg2 : IVec S6 32) : IVec S_ 1 :=
  let main_c : IVec S_ 32 := constantI S_ 32 0#32
  let main_v0 : IVec S6 32 := broadcastInDim S6 ![] bcast_S_S6 main_c
  let main_v1 : IVec S6 1 := cmpi .sge main_arg2 main_v0
  let main_c_0 : IVec S_ 32 := constantI S_ 32 2048#32
  let main_v2 : IVec S6 32 := broadcastInDim S6 ![] bcast_S_S6 main_c_0
  let main_v3 : IVec S6 1 := cmpi .sle main_arg2 main_v2
  let main_v4 : IVec S6 1 := andi main_v1 main_v3
  let main_c_1 : IVec S_ 1 := constantI S_ 1 1#1
  let main_v5 : IVec S_ 1 := (fun x v => Host.reduce IntOp.andi x v reducesTo_S6_S_d0 h_S_) main_v4 main_c_1
  main_v5
-- ==== Pre_padded.lean ====
abbrev S6144x5760 : Shape := ⟨2, ![6144, 5760]⟩
abbrev S6144x2944 : Shape := ⟨2, ![6144, 2944]⟩
abbrev S6 : Shape := ⟨1, ![6]⟩
abbrev S6x1024 : Shape := ⟨2, ![6, 1024]⟩
abbrev S_ : Shape := ⟨0, ![]⟩
abbrev S6x1 : Shape := ⟨2, ![6, 1]⟩
abbrev S6144x1 : Shape := ⟨2, ![6144, 1]⟩

class Facts : Prop where
  bcast_S_S6x1024 : S_.BroadcastsInDim S6x1024 (![] : Fin 0 → Fin S6x1024.rank)
  bcast_S6_S6x1_0 : S6.BroadcastsInDim S6x1 (![0] : Fin 1 → Fin S6x1.rank)
  bcast_S6x1_S6x1024_0_1 : S6x1.BroadcastsInDim S6x1024 (![0, 1] : Fin 2 → Fin S6x1024.rank)
  shapeCasts_S6x1024_S6144x1 : S6x1024.ShapeCasts S6144x1
  bcast_S_S6 : S_.BroadcastsInDim S6 (![] : Fin 0 → Fin S6.rank)
  reducesTo_S6_S_d0 : S6.ReducesTo [0] S_
  h_S_ : 0 < S_.numel
  bcast_S_S6144x5760 : S_.BroadcastsInDim S6144x5760 (![] : Fin 0 → Fin S6144x5760.rank)
  bcast_S6144x1_S6144x5760_0_1 : S6144x1.BroadcastsInDim S6144x5760 (![0, 1] : Fin 2 → Fin S6144x5760.rank)
  reducesTo_S6144x5760_S_d0_1 : S6144x5760.ReducesTo [0, 1] S_

variable [Facts]

def fn_part1 {F : FTy → Type} [FloatOps F] (main_v14 : IVec S_ 1) (main_v15 : IVec S6144x1 1) (main_v17 : IVec S6144x5760 1) : IVec S_ 1 :=
  let main_v18 : IVec S6144x5760 1 := broadcastInDim S6144x5760 ![0, 1] bcast_S6144x1_S6144x5760_0_1 main_v15
  let main_v19 : IVec S6144x5760 1 := ori main_v18 main_v17
  let main_c_5 : IVec S_ 1 := constantI S_ 1 1#1
  let main_v20 : IVec S_ 1 := (fun x v => Host.reduce IntOp.andi x v reducesTo_S6144x5760_S_d0_1 h_S_) main_v19 main_c_5
  let main_v21 : IVec S_ 1 := andi main_v14 main_v20
  main_v21

def fn {F : FTy → Type} [FloatOps F] (main_arg0 : IVec S6144x5760 32) (main_arg1 : IVec S6144x2944 32) (main_arg2 : IVec S6 32) : IVec S_ 1 :=
  let main_v0 : IVec S6x1024 32 := iotaInDim S6x1024 32 1
  let main_c : IVec S_ 32 := constantI S_ 32 8#32
  let main_v1 : IVec S6x1024 32 := broadcastInDim S6x1024 ![] bcast_S_S6x1024 main_c
  let main_v2 : IVec S6x1024 32 := Host.shrsi main_v0 main_v1
  let main_c_0 : IVec S_ 32 := constantI S_ 32 9#32
  let main_v3 : IVec S6x1024 32 := broadcastInDim S6x1024 ![] bcast_S_S6x1024 main_c_0
  let main_v4 : IVec S6x1024 32 := Host.shli main_v2 main_v3
  let main_v5 : IVec S6x1 32 := broadcastInDim S6x1 ![0] bcast_S6_S6x1_0 main_arg2
  let main_v6 : IVec S6x1024 32 := broadcastInDim S6x1024 ![0, 1] bcast_S6x1_S6x1024_0_1 main_v5
  let main_v7 : IVec S6x1024 1 := cmpi .sge main_v4 main_v6
  let main_v8 : IVec S6144x1 1 := shapeCast S6144x1 main_v7 shapeCasts_S6x1024_S6144x1
  let main_c_1 : IVec S_ 32 := constantI S_ 32 0#32
  let main_v9 : IVec S6 32 := broadcastInDim S6 ![] bcast_S_S6 main_c_1
  let main_v10 : IVec S6 1 := cmpi .sge main_arg2 main_v9
  let main_c_2 : IVec S_ 32 := constantI S_ 32 2048#32
  let main_v11 : IVec S6 32 := broadcastInDim S6 ![] bcast_S_S6 main_c_2
  let main_v12 : IVec S6 1 := cmpi .sle main_arg2 main_v11
  let main_v13 : IVec S6 1 := andi main_v10 main_v12
  let main_c_3 : IVec S_ 1 := constantI S_ 1 1#1
  let main_v14 : IVec S_ 1 := (fun x v => Host.reduce IntOp.andi x v reducesTo_S6_S_d0 h_S_) main_v13 main_c_3
  let main_v15 : IVec S6144x1 1 := noti main_v8
  let main_c_4 : IVec S_ 32 := constantI S_ 32 0#32
  let main_v16 : IVec S6144x5760 32 := broadcastInDim S6144x5760 ![] bcast_S_S6144x5760 main_c_4
  let main_v17 : IVec S6144x5760 1 := cmpi .eq main_arg0 main_v16
  fn_part1 (F := F) main_v14 main_v15 main_v17
-- ==== Kernel.lean ====
abbrev S6144x5760 : Shape := ⟨2, ![6144, 5760]⟩
abbrev S6144x2944 : Shape := ⟨2, ![6144, 2944]⟩
abbrev S6 : Shape := ⟨1, ![6]⟩
abbrev S5760x2880 : Shape := ⟨2, ![5760, 2880]⟩
abbrev S256x1152 : Shape := ⟨2, ![256, 1152]⟩
abbrev S1 : Shape := ⟨1, ![1]⟩
abbrev S256x2944 : Shape := ⟨2, ![256, 2944]⟩
abbrev S1152x2880 : Shape := ⟨2, ![1152, 2880]⟩
abbrev S576x512 : Shape := ⟨2, ![576, 512]⟩
abbrev S512x1152 : Shape := ⟨2, ![512, 1152]⟩
abbrev S1152x512 : Shape := ⟨2, ![1152, 512]⟩
abbrev S256x256 : Shape := ⟨2, ![256, 256]⟩
abbrev S512x256 : Shape := ⟨2, ![512, 256]⟩
abbrev S1152x256 : Shape := ⟨2, ![1152, 256]⟩
abbrev S256x128 : Shape := ⟨2, ![256, 128]⟩
abbrev S512x128 : Shape := ⟨2, ![512, 128]⟩
abbrev S1152x128 : Shape := ⟨2, ![1152, 128]⟩
abbrev S1152x64 : Shape := ⟨2, ![1152, 64]⟩

abbrev nBuf : Space → Nat
  | .hbm => 3
  | .vmem => 7
  | .smem => 1
  | _ => 0

abbrev bufTy : (tb : Table) → Fin (tcTables nBuf tb) → BufTy
  | .hbm, ⟨0, _⟩ => ⟨S6144x5760, .i32⟩
  | .hbm, ⟨1, _⟩ => ⟨S6144x2944, .i32⟩
  | .hbm, ⟨2, _⟩ => ⟨S5760x2880, .f32⟩
  | .local _ .vmem, ⟨0, _⟩ => ⟨S256x1152, .i32⟩
  | .local _ .vmem, ⟨1, _⟩ => ⟨S256x1152, .i32⟩
  | .local _ .vmem, ⟨2, _⟩ => ⟨S256x2944, .i32⟩
  | .local _ .vmem, ⟨3, _⟩ => ⟨S256x2944, .i32⟩
  | .local _ .vmem, ⟨4, _⟩ => ⟨S1152x2880, .f32⟩
  | .local _ .vmem, ⟨5, _⟩ => ⟨S1152x2880, .f32⟩
  | .local _ .vmem, ⟨6, _⟩ => ⟨S576x512, .i32⟩
  | .local _ .smem, ⟨0, _⟩ => ⟨S6, .i32⟩
  | _, _ => ⟨S6144x5760, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![5, 24], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32_52 : BitVec 32 := 0#32
  let v126 : BitVec 1 := Scalar.cmpi .eq arg1 c0_i32_52
  let v127 : BitVec 32 := Scalar.extui v126
  let c0_i32_53 : BitVec 32 := 0#32
  let v128 : BitVec 1 := Scalar.cmpi .ne v127 c0_i32_53
  v128

def k0_cond2 (i : grid0.Coords) (v0 : BitVec 32) (v20 : BitVec 32) (v40 : BitVec 32) (v60 : BitVec 32) (v80 : BitVec 32) (v100 : BitVec 32) : BitVec 1 :=
  let arg1 : BitVec 32 := BitVec.ofNat 32 (i 1).val
  let c0_i32_51 : BitVec 32 := 0#32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v120 : BitVec 32 := Scalar.addi c0_i32_51 v19
  let c512_i32_6 : BitVec 32 := 512#32
  let v21 : BitVec 32 := Scalar.addi v20 c512_i32_6
  let c1_i32_7 : BitVec 32 := 1#32
  let v22 : BitVec 32 := Scalar.subi v21 c1_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c512_i32_8 : BitVec 32 := 512#32
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let v23 : BitVec 32 := Scalar.divsi v22 c512_i32_8
  let c1_i32_14 : BitVec 32 := 1#32
  let v38 : BitVec 32 := Scalar.subi v23 c1_i32_14
  let v39 : BitVec 32 := Scalar.select v37 v38 v23
  let v121 : BitVec 32 := Scalar.addi v120 v39
  let c512_i32_15 : BitVec 32 := 512#32
  let v41 : BitVec 32 := Scalar.addi v40 c512_i32_15
  let c1_i32_16 : BitVec 32 := 1#32
  let v42 : BitVec 32 := Scalar.subi v41 c1_i32_16
  let c0_i32_18 : BitVec 32 := 0#32
  let v44 : BitVec 1 := Scalar.cmpi .sgt v42 c0_i32_18
  let v45 : BitVec 32 := Scalar.extui v44
  let c0_i32_19 : BitVec 32 := 0#32
  let v46 : BitVec 1 := Scalar.cmpi .slt v42 c0_i32_19
  let v47 : BitVec 32 := Scalar.extui v46
  let v48 : BitVec 32 := Scalar.subi v45 v47
  let c512_i32_17 : BitVec 32 := 512#32
  let c0_i32_20 : BitVec 32 := 0#32
  let v49 : BitVec 1 := Scalar.cmpi .sgt c512_i32_17 c0_i32_20
  let v50 : BitVec 32 := Scalar.extui v49
  let c0_i32_21 : BitVec 32 := 0#32
  let v51 : BitVec 1 := Scalar.cmpi .slt c512_i32_17 c0_i32_21
  let v52 : BitVec 32 := Scalar.extui v51
  let v53 : BitVec 32 := Scalar.subi v50 v52
  let v54 : BitVec 1 := Scalar.cmpi .ne v48 v53
  let v55 : BitVec 32 := Scalar.remsi v42 c512_i32_17
  let c0_i32_22 : BitVec 32 := 0#32
  let v56 : BitVec 1 := Scalar.cmpi .ne v55 c0_i32_22
  let v57 : BitVec 1 := Scalar.andi v54 v56
  let v43 : BitVec 32 := Scalar.divsi v42 c512_i32_17
  let c1_i32_23 : BitVec 32 := 1#32
  let v58 : BitVec 32 := Scalar.subi v43 c1_i32_23
  let v59 : BitVec 32 := Scalar.select v57 v58 v43
  let v122 : BitVec 32 := Scalar.addi v121 v59
  let c512_i32_24 : BitVec 32 := 512#32
  let v61 : BitVec 32 := Scalar.addi v60 c512_i32_24
  let c1_i32_25 : BitVec 32 := 1#32
  let v62 : BitVec 32 := Scalar.subi v61 c1_i32_25
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c512_i32_26 : BitVec 32 := 512#32
  let c0_i32_29 : BitVec 32 := 0#32
  let v69 : BitVec 1 := Scalar.cmpi .sgt c512_i32_26 c0_i32_29
  let v70 : BitVec 32 := Scalar.extui v69
  let c0_i32_30 : BitVec 32 := 0#32
  let v71 : BitVec 1 := Scalar.cmpi .slt c512_i32_26 c0_i32_30
  let v72 : BitVec 32 := Scalar.extui v71
  let v73 : BitVec 32 := Scalar.subi v70 v72
  let v74 : BitVec 1 := Scalar.cmpi .ne v68 v73
  let v75 : BitVec 32 := Scalar.remsi v62 c512_i32_26
  let c0_i32_31 : BitVec 32 := 0#32
  let v76 : BitVec 1 := Scalar.cmpi .ne v75 c0_i32_31
  let v77 : BitVec 1 := Scalar.andi v74 v76
  let v63 : BitVec 32 := Scalar.divsi v62 c512_i32_26
  let c1_i32_32 : BitVec 32 := 1#32
  let v78 : BitVec 32 := Scalar.subi v63 c1_i32_32
  let v79 : BitVec 32 := Scalar.select v77 v78 v63
  let v123 : BitVec 32 := Scalar.addi v122 v79
  let c512_i32_33 : BitVec 32 := 512#32
  let v81 : BitVec 32 := Scalar.addi v80 c512_i32_33
  let c1_i32_34 : BitVec 32 := 1#32
  let v82 : BitVec 32 := Scalar.subi v81 c1_i32_34
  let c0_i32_36 : BitVec 32 := 0#32
  let v84 : BitVec 1 := Scalar.cmpi .sgt v82 c0_i32_36
  let v85 : BitVec 32 := Scalar.extui v84
  let c0_i32_37 : BitVec 32 := 0#32
  let v86 : BitVec 1 := Scalar.cmpi .slt v82 c0_i32_37
  let v87 : BitVec 32 := Scalar.extui v86
  let v88 : BitVec 32 := Scalar.subi v85 v87
  let c512_i32_35 : BitVec 32 := 512#32
  let c0_i32_38 : BitVec 32 := 0#32
  let v89 : BitVec 1 := Scalar.cmpi .sgt c512_i32_35 c0_i32_38
  let v90 : BitVec 32 := Scalar.extui v89
  let c0_i32_39 : BitVec 32 := 0#32
  let v91 : BitVec 1 := Scalar.cmpi .slt c512_i32_35 c0_i32_39
  let v92 : BitVec 32 := Scalar.extui v91
  let v93 : BitVec 32 := Scalar.subi v90 v92
  let v94 : BitVec 1 := Scalar.cmpi .ne v88 v93
  let v95 : BitVec 32 := Scalar.remsi v82 c512_i32_35
  let c0_i32_40 : BitVec 32 := 0#32
  let v96 : BitVec 1 := Scalar.cmpi .ne v95 c0_i32_40
  let v97 : BitVec 1 := Scalar.andi v94 v96
  let v83 : BitVec 32 := Scalar.divsi v82 c512_i32_35
  let c1_i32_41 : BitVec 32 := 1#32
  let v98 : BitVec 32 := Scalar.subi v83 c1_i32_41
  let v99 : BitVec 32 := Scalar.select v97 v98 v83
  let v124 : BitVec 32 := Scalar.addi v123 v99
  let c512_i32_42 : BitVec 32 := 512#32
  let v101 : BitVec 32 := Scalar.addi v100 c512_i32_42
  let c1_i32_43 : BitVec 32 := 1#32
  let v102 : BitVec 32 := Scalar.subi v101 c1_i32_43
  let c0_i32_45 : BitVec 32 := 0#32
  let v104 : BitVec 1 := Scalar.cmpi .sgt v102 c0_i32_45
  let v105 : BitVec 32 := Scalar.extui v104
  let c0_i32_46 : BitVec 32 := 0#32
  let v106 : BitVec 1 := Scalar.cmpi .slt v102 c0_i32_46
  let v107 : BitVec 32 := Scalar.extui v106
  let v108 : BitVec 32 := Scalar.subi v105 v107
  let c512_i32_44 : BitVec 32 := 512#32
  let c0_i32_47 : BitVec 32 := 0#32
  let v109 : BitVec 1 := Scalar.cmpi .sgt c512_i32_44 c0_i32_47
  let v110 : BitVec 32 := Scalar.extui v109
  let c0_i32_48 : BitVec 32 := 0#32
  let v111 : BitVec 1 := Scalar.cmpi .slt c512_i32_44 c0_i32_48
  let v112 : BitVec 32 := Scalar.extui v111
  let v113 : BitVec 32 := Scalar.subi v110 v112
  let v114 : BitVec 1 := Scalar.cmpi .ne v108 v113
  let v115 : BitVec 32 := Scalar.remsi v102 c512_i32_44
  let c0_i32_49 : BitVec 32 := 0#32
  let v116 : BitVec 1 := Scalar.cmpi .ne v115 c0_i32_49
  let v117 : BitVec 1 := Scalar.andi v114 v116
  let v103 : BitVec 32 := Scalar.divsi v102 c512_i32_44
  let c1_i32_50 : BitVec 32 := 1#32
  let v118 : BitVec 32 := Scalar.subi v103 c1_i32_50
  let v119 : BitVec 32 := Scalar.select v117 v118 v103
  let v125 : BitVec 32 := Scalar.addi v124 v119
  let v129 : BitVec 1 := Scalar.cmpi .slt arg1 v125
  let v130 : BitVec 32 := Scalar.extui v129
  let c0_i32_54 : BitVec 32 := 0#32
  let v131 : BitVec 1 := Scalar.cmpi .ne v130 c0_i32_54
  v131

def cc0_transform_0 (inb_S6_S1_0 : ∀ a, (![0] : Fin 1 → Nat) a + S1.size a ≤ S6.size a) (numel1_S1 : S1.numel = 1) (inb_S6_S1_1 : ∀ a, (![1] : Fin 1 → Nat) a + S1.size a ≤ S6.size a) (inb_S6_S1_2 : ∀ a, (![2] : Fin 1 → Nat) a + S1.size a ≤ S6.size a) (inb_S6_S1_3 : ∀ a, (![3] : Fin 1 → Nat) a + S1.size a ≤ S6.size a) (inb_S6_S1_4 : ∀ a, (![4] : Fin 1 → Nat) a + S1.size a ≤ S6.size a) (inb_S6_S1_5 : ∀ a, (![5] : Fin 1 → Nat) a + S1.size a ≤ S6.size a) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S6) ![0] S1.size inb_S6_S1_0) numel1_S1
  let c512_i32 : BitVec 32 := 512#32
  let v1 : BitVec 32 := Scalar.addi v0 c512_i32
  let c1_i32 : BitVec 32 := 1#32
  let v2 : BitVec 32 := Scalar.subi v1 c1_i32
  let c512_i32_0 : BitVec 32 := 512#32
  let v3 : BitVec 32 := Scalar.divsi v2 c512_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1 : Index := 1#32
  let v20 : BitVec 32 := pf.at 0 (Rect.unit (s := S6) ![1] S1.size inb_S6_S1_1) numel1_S1
  let c512_i32_6 : BitVec 32 := 512#32
  let v21 : BitVec 32 := Scalar.addi v20 c512_i32_6
  let c1_i32_7 : BitVec 32 := 1#32
  let v22 : BitVec 32 := Scalar.subi v21 c1_i32_7
  let c512_i32_8 : BitVec 32 := 512#32
  let v23 : BitVec 32 := Scalar.divsi v22 c512_i32_8
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let c1_i32_14 : BitVec 32 := 1#32
  let v38 : BitVec 32 := Scalar.subi v23 c1_i32_14
  let v39 : BitVec 32 := Scalar.select v37 v38 v23
  let c2 : Index := 2#32
  let v40 : BitVec 32 := pf.at 0 (Rect.unit (s := S6) ![2] S1.size inb_S6_S1_2) numel1_S1
  let c512_i32_15 : BitVec 32 := 512#32
  let v41 : BitVec 32 := Scalar.addi v40 c512_i32_15
  let c1_i32_16 : BitVec 32 := 1#32
  let v42 : BitVec 32 := Scalar.subi v41 c1_i32_16
  let c512_i32_17 : BitVec 32 := 512#32
  let v43 : BitVec 32 := Scalar.divsi v42 c512_i32_17
  let c0_i32_18 : BitVec 32 := 0#32
  let v44 : BitVec 1 := Scalar.cmpi .sgt v42 c0_i32_18
  let v45 : BitVec 32 := Scalar.extui v44
  let c0_i32_19 : BitVec 32 := 0#32
  let v46 : BitVec 1 := Scalar.cmpi .slt v42 c0_i32_19
  let v47 : BitVec 32 := Scalar.extui v46
  let v48 : BitVec 32 := Scalar.subi v45 v47
  let c0_i32_20 : BitVec 32 := 0#32
  let v49 : BitVec 1 := Scalar.cmpi .sgt c512_i32_17 c0_i32_20
  let v50 : BitVec 32 := Scalar.extui v49
  let c0_i32_21 : BitVec 32 := 0#32
  let v51 : BitVec 1 := Scalar.cmpi .slt c512_i32_17 c0_i32_21
  let v52 : BitVec 32 := Scalar.extui v51
  let v53 : BitVec 32 := Scalar.subi v50 v52
  let v54 : BitVec 1 := Scalar.cmpi .ne v48 v53
  let v55 : BitVec 32 := Scalar.remsi v42 c512_i32_17
  let c0_i32_22 : BitVec 32 := 0#32
  let v56 : BitVec 1 := Scalar.cmpi .ne v55 c0_i32_22
  let v57 : BitVec 1 := Scalar.andi v54 v56
  let c1_i32_23 : BitVec 32 := 1#32
  let v58 : BitVec 32 := Scalar.subi v43 c1_i32_23
  let v59 : BitVec 32 := Scalar.select v57 v58 v43
  let c3 : Index := 3#32
  let v60 : BitVec 32 := pf.at 0 (Rect.unit (s := S6) ![3] S1.size inb_S6_S1_3) numel1_S1
  let c512_i32_24 : BitVec 32 := 512#32
  let v61 : BitVec 32 := Scalar.addi v60 c512_i32_24
  let c1_i32_25 : BitVec 32 := 1#32
  let v62 : BitVec 32 := Scalar.subi v61 c1_i32_25
  let c512_i32_26 : BitVec 32 := 512#32
  let v63 : BitVec 32 := Scalar.divsi v62 c512_i32_26
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c0_i32_29 : BitVec 32 := 0#32
  let v69 : BitVec 1 := Scalar.cmpi .sgt c512_i32_26 c0_i32_29
  let v70 : BitVec 32 := Scalar.extui v69
  let c0_i32_30 : BitVec 32 := 0#32
  let v71 : BitVec 1 := Scalar.cmpi .slt c512_i32_26 c0_i32_30
  let v72 : BitVec 32 := Scalar.extui v71
  let v73 : BitVec 32 := Scalar.subi v70 v72
  let v74 : BitVec 1 := Scalar.cmpi .ne v68 v73
  let v75 : BitVec 32 := Scalar.remsi v62 c512_i32_26
  let c0_i32_31 : BitVec 32 := 0#32
  let v76 : BitVec 1 := Scalar.cmpi .ne v75 c0_i32_31
  let v77 : BitVec 1 := Scalar.andi v74 v76
  let c1_i32_32 : BitVec 32 := 1#32
  let v78 : BitVec 32 := Scalar.subi v63 c1_i32_32
  let v79 : BitVec 32 := Scalar.select v77 v78 v63
  let c4 : Index := 4#32
  let v80 : BitVec 32 := pf.at 0 (Rect.unit (s := S6) ![4] S1.size inb_S6_S1_4) numel1_S1
  let c512_i32_33 : BitVec 32 := 512#32
  let v81 : BitVec 32 := Scalar.addi v80 c512_i32_33
  let c1_i32_34 : BitVec 32 := 1#32
  let v82 : BitVec 32 := Scalar.subi v81 c1_i32_34
  let c512_i32_35 : BitVec 32 := 512#32
  let v83 : BitVec 32 := Scalar.divsi v82 c512_i32_35
  let c0_i32_36 : BitVec 32 := 0#32
  let v84 : BitVec 1 := Scalar.cmpi .sgt v82 c0_i32_36
  let v85 : BitVec 32 := Scalar.extui v84
  let c0_i32_37 : BitVec 32 := 0#32
  let v86 : BitVec 1 := Scalar.cmpi .slt v82 c0_i32_37
  let v87 : BitVec 32 := Scalar.extui v86
  let v88 : BitVec 32 := Scalar.subi v85 v87
  let c0_i32_38 : BitVec 32 := 0#32
  let v89 : BitVec 1 := Scalar.cmpi .sgt c512_i32_35 c0_i32_38
  let v90 : BitVec 32 := Scalar.extui v89
  let c0_i32_39 : BitVec 32 := 0#32
  let v91 : BitVec 1 := Scalar.cmpi .slt c512_i32_35 c0_i32_39
  let v92 : BitVec 32 := Scalar.extui v91
  let v93 : BitVec 32 := Scalar.subi v90 v92
  let v94 : BitVec 1 := Scalar.cmpi .ne v88 v93
  let v95 : BitVec 32 := Scalar.remsi v82 c512_i32_35
  let c0_i32_40 : BitVec 32 := 0#32
  let v96 : BitVec 1 := Scalar.cmpi .ne v95 c0_i32_40
  let v97 : BitVec 1 := Scalar.andi v94 v96
  let c1_i32_41 : BitVec 32 := 1#32
  let v98 : BitVec 32 := Scalar.subi v83 c1_i32_41
  let v99 : BitVec 32 := Scalar.select v97 v98 v83
  let c5 : Index := 5#32
  let v100 : BitVec 32 := pf.at 0 (Rect.unit (s := S6) ![5] S1.size inb_S6_S1_5) numel1_S1
  let c512_i32_42 : BitVec 32 := 512#32
  let v101 : BitVec 32 := Scalar.addi v100 c512_i32_42
  let c1_i32_43 : BitVec 32 := 1#32
  let v102 : BitVec 32 := Scalar.subi v101 c1_i32_43
  let c512_i32_44 : BitVec 32 := 512#32
  let v103 : BitVec 32 := Scalar.divsi v102 c512_i32_44
  let c0_i32_45 : BitVec 32 := 0#32
  let v104 : BitVec 1 := Scalar.cmpi .sgt v102 c0_i32_45
  let v105 : BitVec 32 := Scalar.extui v104
  let c0_i32_46 : BitVec 32 := 0#32
  let v106 : BitVec 1 := Scalar.cmpi .slt v102 c0_i32_46
  let v107 : BitVec 32 := Scalar.extui v106
  let v108 : BitVec 32 := Scalar.subi v105 v107
  let c0_i32_47 : BitVec 32 := 0#32
  let v109 : BitVec 1 := Scalar.cmpi .sgt c512_i32_44 c0_i32_47
  let v110 : BitVec 32 := Scalar.extui v109
  let c0_i32_48 : BitVec 32 := 0#32
  let v111 : BitVec 1 := Scalar.cmpi .slt c512_i32_44 c0_i32_48
  let v112 : BitVec 32 := Scalar.extui v111
  let v113 : BitVec 32 := Scalar.subi v110 v112
  let v114 : BitVec 1 := Scalar.cmpi .ne v108 v113
  let v115 : BitVec 32 := Scalar.remsi v102 c512_i32_44
  let c0_i32_49 : BitVec 32 := 0#32
  let v116 : BitVec 1 := Scalar.cmpi .ne v115 c0_i32_49
  let v117 : BitVec 1 := Scalar.andi v114 v116
  let c1_i32_50 : BitVec 32 := 1#32
  let v118 : BitVec 32 := Scalar.subi v103 c1_i32_50
  let v119 : BitVec 32 := Scalar.select v117 v118 v103
  let c0_i32_51 : BitVec 32 := 0#32
  let v120 : BitVec 32 := Scalar.addi c0_i32_51 v19
  let v121 : BitVec 32 := Scalar.addi v120 v39
  let v122 : BitVec 32 := Scalar.addi v121 v59
  let v123 : BitVec 32 := Scalar.addi v122 v79
  let v124 : BitVec 32 := Scalar.addi v123 v99
  let v125 : BitVec 32 := Scalar.addi v124 v119
  let c1_i32_52 : BitVec 32 := 1#32
  let v126 : BitVec 32 := Scalar.subi v125 c1_i32_52
  let c0_i32_53 : BitVec 32 := 0#32
  let v127 : BitVec 32 := Scalar.maxsi v126 c0_i32_53
  let v128 : BitVec 32 := Scalar.minsi arg1 v127
  let c0_i32_54 : BitVec 32 := 0#32
  let v129 : BitVec 1 := Scalar.cmpi .sge v128 c0_i32_54
  let c0_i32_55 : BitVec 32 := 0#32
  let v130 : BitVec 32 := Scalar.addi c0_i32_55 v128
  let c0_i32_56 : BitVec 32 := 0#32
  let v131 : BitVec 32 := Scalar.subi v130 c0_i32_56
  let c0_i32_57 : BitVec 32 := 0#32
  let v132 : BitVec 32 := Scalar.select v129 v131 c0_i32_57
  let c0_i32_58 : BitVec 32 := 0#32
  let v133 : BitVec 32 := Scalar.addi c0_i32_58 v19
  let v134 : BitVec 1 := Scalar.cmpi .sge v128 v133
  let c4_i32 : BitVec 32 := 4#32
  let v135 : BitVec 32 := Scalar.addi c4_i32 v128
  let v136 : BitVec 32 := Scalar.subi v135 v133
  let v137 : BitVec 32 := Scalar.select v134 v136 v132
  let v138 : BitVec 32 := Scalar.addi v133 v39
  let v139 : BitVec 1 := Scalar.cmpi .sge v128 v138
  let c8_i32 : BitVec 32 := 8#32
  let v140 : BitVec 32 := Scalar.addi c8_i32 v128
  let v141 : BitVec 32 := Scalar.subi v140 v138
  let v142 : BitVec 32 := Scalar.select v139 v141 v137
  let v143 : BitVec 32 := Scalar.addi v138 v59
  let v144 : BitVec 1 := Scalar.cmpi .sge v128 v143
  let c12_i32 : BitVec 32 := 12#32
  let v145 : BitVec 32 := Scalar.addi c12_i32 v128
  let v146 : BitVec 32 := Scalar.subi v145 v143
  let v147 : BitVec 32 := Scalar.select v144 v146 v142
  let v148 : BitVec 32 := Scalar.addi v143 v79
  let v149 : BitVec 1 := Scalar.cmpi .sge v128 v148
  let c16_i32 : BitVec 32 := 16#32
  let v150 : BitVec 32 := Scalar.addi c16_i32 v128
  let v151 : BitVec 32 := Scalar.subi v150 v148
  let v152 : BitVec 32 := Scalar.select v149 v151 v147
  let v153 : BitVec 32 := Scalar.addi v148 v99
  let v154 : BitVec 1 := Scalar.cmpi .sge v128 v153
  let c20_i32 : BitVec 32 := 20#32
  let v155 : BitVec 32 := Scalar.addi c20_i32 v128
  let v156 : BitVec 32 := Scalar.subi v155 v153
  let v157 : BitVec 32 := Scalar.select v154 v156 v152
  let v158 : BitVec 32 := Scalar.addi v153 v119
  let c0_i32_59 : BitVec 32 := 0#32
  ![v157.toNat, arg0.toNat]

def cc0_transform_1 (inb_S6_S1_0 : ∀ a, (![0] : Fin 1 → Nat) a + S1.size a ≤ S6.size a) (numel1_S1 : S1.numel = 1) (inb_S6_S1_1 : ∀ a, (![1] : Fin 1 → Nat) a + S1.size a ≤ S6.size a) (inb_S6_S1_2 : ∀ a, (![2] : Fin 1 → Nat) a + S1.size a ≤ S6.size a) (inb_S6_S1_3 : ∀ a, (![3] : Fin 1 → Nat) a + S1.size a ≤ S6.size a) (inb_S6_S1_4 : ∀ a, (![4] : Fin 1 → Nat) a + S1.size a ≤ S6.size a) (inb_S6_S1_5 : ∀ a, (![5] : Fin 1 → Nat) a + S1.size a ≤ S6.size a) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S6) ![0] S1.size inb_S6_S1_0) numel1_S1
  let c512_i32 : BitVec 32 := 512#32
  let v1 : BitVec 32 := Scalar.addi v0 c512_i32
  let c1_i32 : BitVec 32 := 1#32
  let v2 : BitVec 32 := Scalar.subi v1 c1_i32
  let c512_i32_0 : BitVec 32 := 512#32
  let v3 : BitVec 32 := Scalar.divsi v2 c512_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1 : Index := 1#32
  let v20 : BitVec 32 := pf.at 0 (Rect.unit (s := S6) ![1] S1.size inb_S6_S1_1) numel1_S1
  let c512_i32_6 : BitVec 32 := 512#32
  let v21 : BitVec 32 := Scalar.addi v20 c512_i32_6
  let c1_i32_7 : BitVec 32 := 1#32
  let v22 : BitVec 32 := Scalar.subi v21 c1_i32_7
  let c512_i32_8 : BitVec 32 := 512#32
  let v23 : BitVec 32 := Scalar.divsi v22 c512_i32_8
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c0_i32_11 : BitVec 32 := 0#32
  let v29 : BitVec 1 := Scalar.cmpi .sgt c512_i32_8 c0_i32_11
  let v30 : BitVec 32 := Scalar.extui v29
  let c0_i32_12 : BitVec 32 := 0#32
  let v31 : BitVec 1 := Scalar.cmpi .slt c512_i32_8 c0_i32_12
  let v32 : BitVec 32 := Scalar.extui v31
  let v33 : BitVec 32 := Scalar.subi v30 v32
  let v34 : BitVec 1 := Scalar.cmpi .ne v28 v33
  let v35 : BitVec 32 := Scalar.remsi v22 c512_i32_8
  let c0_i32_13 : BitVec 32 := 0#32
  let v36 : BitVec 1 := Scalar.cmpi .ne v35 c0_i32_13
  let v37 : BitVec 1 := Scalar.andi v34 v36
  let c1_i32_14 : BitVec 32 := 1#32
  let v38 : BitVec 32 := Scalar.subi v23 c1_i32_14
  let v39 : BitVec 32 := Scalar.select v37 v38 v23
  let c2 : Index := 2#32
  let v40 : BitVec 32 := pf.at 0 (Rect.unit (s := S6) ![2] S1.size inb_S6_S1_2) numel1_S1
  let c512_i32_15 : BitVec 32 := 512#32
  let v41 : BitVec 32 := Scalar.addi v40 c512_i32_15
  let c1_i32_16 : BitVec 32 := 1#32
  let v42 : BitVec 32 := Scalar.subi v41 c1_i32_16
  let c512_i32_17 : BitVec 32 := 512#32
  let v43 : BitVec 32 := Scalar.divsi v42 c512_i32_17
  let c0_i32_18 : BitVec 32 := 0#32
  let v44 : BitVec 1 := Scalar.cmpi .sgt v42 c0_i32_18
  let v45 : BitVec 32 := Scalar.extui v44
  let c0_i32_19 : BitVec 32 := 0#32
  let v46 : BitVec 1 := Scalar.cmpi .slt v42 c0_i32_19
  let v47 : BitVec 32 := Scalar.extui v46
  let v48 : BitVec 32 := Scalar.subi v45 v47
  let c0_i32_20 : BitVec 32 := 0#32
  let v49 : BitVec 1 := Scalar.cmpi .sgt c512_i32_17 c0_i32_20
  let v50 : BitVec 32 := Scalar.extui v49
  let c0_i32_21 : BitVec 32 := 0#32
  let v51 : BitVec 1 := Scalar.cmpi .slt c512_i32_17 c0_i32_21
  let v52 : BitVec 32 := Scalar.extui v51
  let v53 : BitVec 32 := Scalar.subi v50 v52
  let v54 : BitVec 1 := Scalar.cmpi .ne v48 v53
  let v55 : BitVec 32 := Scalar.remsi v42 c512_i32_17
  let c0_i32_22 : BitVec 32 := 0#32
  let v56 : BitVec 1 := Scalar.cmpi .ne v55 c0_i32_22
  let v57 : BitVec 1 := Scalar.andi v54 v56
  let c1_i32_23 : BitVec 32 := 1#32
  let v58 : BitVec 32 := Scalar.subi v43 c1_i32_23
  let v59 : BitVec 32 := Scalar.select v57 v58 v43
  let c3 : Index := 3#32
  let v60 : BitVec 32 := pf.at 0 (Rect.unit (s := S6) ![3] S1.size inb_S6_S1_3) numel1_S1
  let c512_i32_24 : BitVec 32 := 512#32
  let v61 : BitVec 32 := Scalar.addi v60 c512_i32_24
  let c1_i32_25 : BitVec 32 := 1#32
  let v62 : BitVec 32 := Scalar.subi v61 c1_i32_25
  let c512_i32_26 : BitVec 32 := 512#32
  let v63 : BitVec 32 := Scalar.divsi v62 c512_i32_26
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c0_i32_29 : BitVec 32 := 0#32
  let v69 : BitVec 1 := Scalar.cmpi .sgt c512_i32_26 c0_i32_29
  let v70 : BitVec 32 := Scalar.extui v69
  let c0_i32_30 : BitVec 32 := 0#32
  let v71 : BitVec 1 := Scalar.cmpi .slt c512_i32_26 c0_i32_30
  let v72 : BitVec 32 := Scalar.extui v71
  let v73 : BitVec 32 := Scalar.subi v70 v72
  let v74 : BitVec 1 := Scalar.cmpi .ne v68 v73
  let v75 : BitVec 32 := Scalar.remsi v62 c512_i32_26
  let c0_i32_31 : BitVec 32 := 0#32
  let v76 : BitVec 1 := Scalar.cmpi .ne v75 c0_i32_31
  let v77 : BitVec 1 := Scalar.andi v74 v76
  let c1_i32_32 : BitVec 32 := 1#32
  let v78 : BitVec 32 := Scalar.subi v63 c1_i32_32
  let v79 : BitVec 32 := Scalar.select v77 v78 v63
  let c4 : Index := 4#32
  let v80 : BitVec 32 := pf.at 0 (Rect.unit (s := S6) ![4] S1.size inb_S6_S1_4) numel1_S1
  let c512_i32_33 : BitVec 32 := 512#32
  let v81 : BitVec 32 := Scalar.addi v80 c512_i32_33
  let c1_i32_34 : BitVec 32 := 1#32
  let v82 : BitVec 32 := Scalar.subi v81 c1_i32_34
  let c512_i32_35 : BitVec 32 := 512#32
  let v83 : BitVec 32 := Scalar.divsi v82 c512_i32_35
  let c0_i32_36 : BitVec 32 := 0#32
  let v84 : BitVec 1 := Scalar.cmpi .sgt v82 c0_i32_36
  let v85 : BitVec 32 := Scalar.extui v84
  let c0_i32_37 : BitVec 32 := 0#32
  let v86 : BitVec 1 := Scalar.cmpi .slt v82 c0_i32_37
  let v87 : BitVec 32 := Scalar.extui v86
  let v88 : BitVec 32 := Scalar.subi v85 v87
  let c0_i32_38 : BitVec 32 := 0#32
  let v89 : BitVec 1 := Scalar.cmpi .sgt c512_i32_35 c0_i32_38
  let v90 : BitVec 32 := Scalar.extui v89
  let c0_i32_39 : BitVec 32 := 0#32
  let v91 : BitVec 1 := Scalar.cmpi .slt c512_i32_35 c0_i32_39
  let v92 : BitVec 32 := Scalar.extui v91
  let v93 : BitVec 32 := Scalar.subi v90 v92
  let v94 : BitVec 1 := Scalar.cmpi .ne v88 v93
  let v95 : BitVec 32 := Scalar.remsi v82 c512_i32_35
  let c0_i32_40 : BitVec 32 := 0#32
  let v96 : BitVec 1 := Scalar.cmpi .ne v95 c0_i32_40
  let v97 : BitVec 1 := Scalar.andi v94 v96
  let c1_i32_41 : BitVec 32 := 1#32
  let v98 : BitVec 32 := Scalar.subi v83 c1_i32_41
  let v99 : BitVec 32 := Scalar.select v97 v98 v83
  let c5 : Index := 5#32
  let v100 : BitVec 32 := pf.at 0 (Rect.unit (s := S6) ![5] S1.size inb_S6_S1_5) numel1_S1
  let c512_i32_42 : BitVec 32 := 512#32
  let v101 : BitVec 32 := Scalar.addi v100 c512_i32_42
  let c1_i32_43 : BitVec 32 := 1#32
  let v102 : BitVec 32 := Scalar.subi v101 c1_i32_43
  let c512_i32_44 : BitVec 32 := 512#32
  let v103 : BitVec 32 := Scalar.divsi v102 c512_i32_44
  let c0_i32_45 : BitVec 32 := 0#32
  let v104 : BitVec 1 := Scalar.cmpi .sgt v102 c0_i32_45
  let v105 : BitVec 32 := Scalar.extui v104
  let c0_i32_46 : BitVec 32 := 0#32
  let v106 : BitVec 1 := Scalar.cmpi .slt v102 c0_i32_46
  let v107 : BitVec 32 := Scalar.extui v106
  let v108 : BitVec 32 := Scalar.subi v105 v107
  let c0_i32_47 : BitVec 32 := 0#32
  let v109 : BitVec 1 := Scalar.cmpi .sgt c512_i32_44 c0_i32_47
  let v110 : BitVec 32 := Scalar.extui v109
  let c0_i32_48 : BitVec 32 := 0#32
  let v111 : BitVec 1 := Scalar.cmpi .slt c512_i32_44 c0_i32_48
  let v112 : BitVec 32 := Scalar.extui v111
  let v113 : BitVec 32 := Scalar.subi v110 v112
  let v114 : BitVec 1 := Scalar.cmpi .ne v108 v113
  let v115 : BitVec 32 := Scalar.remsi v102 c512_i32_44
  let c0_i32_49 : BitVec 32 := 0#32
  let v116 : BitVec 1 := Scalar.cmpi .ne v115 c0_i32_49
  let v117 : BitVec 1 := Scalar.andi v114 v116
  let c1_i32_50 : BitVec 32 := 1#32
  let v118 : BitVec 32 := Scalar.subi v103 c1_i32_50
  let v119 : BitVec 32 := Scalar.select v117 v118 v103
  let c0_i32_51 : BitVec 32 := 0#32
  let v120 : BitVec 32 := Scalar.addi c0_i32_51 v19
  let v121 : BitVec 32 := Scalar.addi v120 v39
  let v122 : BitVec 32 := Scalar.addi v121 v59
  let v123 : BitVec 32 := Scalar.addi v122 v79
  let v124 : BitVec 32 := Scalar.addi v123 v99
  let v125 : BitVec 32 := Scalar.addi v124 v119
  let c1_i32_52 : BitVec 32 := 1#32
  let v126 : BitVec 32 := Scalar.subi v125 c1_i32_52
  let c0_i32_53 : BitVec 32 := 0#32
  let v127 : BitVec 32 := Scalar.maxsi v126 c0_i32_53
  let v128 : BitVec 32 := Scalar.minsi arg1 v127
  let c0_i32_54 : BitVec 32 := 0#32
  let v129 : BitVec 1 := Scalar.cmpi .sge v128 c0_i32_54
  let c0_i32_55 : BitVec 32 := 0#32
  let v130 : BitVec 32 := Scalar.addi c0_i32_55 v128
  let c0_i32_56 : BitVec 32 := 0#32
  let v131 : BitVec 32 := Scalar.subi v130 c0_i32_56
  let c0_i32_57 : BitVec 32 := 0#32
  let v132 : BitVec 32 := Scalar.select v129 v131 c0_i32_57
  let c0_i32_58 : BitVec 32 := 0#32
  let v133 : BitVec 32 := Scalar.addi c0_i32_58 v19
  let v134 : BitVec 1 := Scalar.cmpi .sge v128 v133
  let c4_i32 : BitVec 32 := 4#32
  let v135 : BitVec 32 := Scalar.addi c4_i32 v128
  let v136 : BitVec 32 := Scalar.subi v135 v133
  let v137 : BitVec 32 := Scalar.select v134 v136 v132
  let v138 : BitVec 32 := Scalar.addi v133 v39
  let v139 : BitVec 1 := Scalar.cmpi .sge v128 v138
  let c8_i32 : BitVec 32 := 8#32
  let v140 : BitVec 32 := Scalar.addi c8_i32 v128
  let v141 : BitVec 32 := Scalar.subi v140 v138
  let v142 : BitVec 32 := Scalar.select v139 v141 v137
  let v143 : BitVec 32 := Scalar.addi v138 v59
  let v144 : BitVec 1 := Scalar.cmpi .sge v128 v143
  let c12_i32 : BitVec 32 := 12#32
  let v145 : BitVec 32 := Scalar.addi c12_i32 v128
  let v146 : BitVec 32 := Scalar.subi v145 v143
  let v147 : BitVec 32 := Scalar.select v144 v146 v142
  let v148 : BitVec 32 := Scalar.addi v143 v79
  let v149 : BitVec 1 := Scalar.cmpi .sge v128 v148
  let c16_i32 : BitVec 32 := 16#32
  let v150 : BitVec 32 := Scalar.addi c16_i32 v128
  let v151 : BitVec 32 := Scalar.subi v150 v148
  let v152 : BitVec 32 := Scalar.select v149 v151 v147
  let v153 : BitVec 32 := Scalar.addi v148 v99
  let v154 : BitVec 1 := Scalar.cmpi .sge v128 v153
  let c20_i32 : BitVec 32 := 20#32
  let v155 : BitVec 32 := Scalar.addi c20_i32 v128
  let v156 : BitVec 32 := Scalar.subi v155 v153
  let v157 : BitVec 32 := Scalar.select v154 v156 v152
  let v158 : BitVec 32 := Scalar.addi v153 v119
  let c0_i32_59 : BitVec 32 := 0#32
  let c0_i32_60 : BitVec 32 := 0#32
  ![v157.toNat, c0_i32_59.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1152 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2944 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
abbrev S576x2x512 : Shape := ⟨3, ![576, 2, 512]⟩
abbrev S576x1x512 : Shape := ⟨3, ![576, 1, 512]⟩
  | .local _ .vmem, ⟨6, _⟩ => ⟨S576x2x512, .bf16⟩
variable {F : FTy → Type} [FloatOps F]
-- ==== ReferenceIdeal.lean ====
abbrev S6144x5760 : Shape := ⟨2, ![6144, 5760]⟩
abbrev S6144x2944 : Shape := ⟨2, ![6144, 2944]⟩
abbrev S6 : Shape := ⟨1, ![6]⟩
abbrev S6144x5760x2 : Shape := ⟨3, ![6144, 5760, 2]⟩
abbrev S6144x2944x2 : Shape := ⟨3, ![6144, 2944, 2]⟩
abbrev S6144x2880x2 : Shape := ⟨3, ![6144, 2880, 2]⟩
abbrev S6144x5760x1 : Shape := ⟨3, ![6144, 5760, 1]⟩
abbrev S6144x2880x1 : Shape := ⟨3, ![6144, 2880, 1]⟩
abbrev S6144x2880 : Shape := ⟨2, ![6144, 2880]⟩
abbrev S5760x2880 : Shape := ⟨2, ![5760, 2880]⟩

abbrev nBuf : Space → Nat
  | .hbm => 17
  | .vmem => 0
  | .smem => 0
  | _ => 0

abbrev bufTy : (tb : Table) → Fin (tcTables nBuf tb) → BufTy
  | .hbm, ⟨0, _⟩ => ⟨S6144x5760, .i32⟩
  | .hbm, ⟨1, _⟩ => ⟨S6144x2944, .i32⟩
  | .hbm, ⟨2, _⟩ => ⟨S6, .i32⟩
  | .hbm, ⟨3, _⟩ => ⟨S6144x5760x2, .bf16⟩
  | .hbm, ⟨4, _⟩ => ⟨S6144x2944x2, .bf16⟩
  | .hbm, ⟨5, _⟩ => ⟨S6144x2880x2, .bf16⟩
  | .hbm, ⟨6, _⟩ => ⟨S6144x5760x1, .bf16⟩
  | .hbm, ⟨7, _⟩ => ⟨S6144x5760, .bf16⟩
  | .hbm, ⟨8, _⟩ => ⟨S6144x2880x1, .bf16⟩
  | .hbm, ⟨9, _⟩ => ⟨S6144x2880, .bf16⟩
  | .hbm, ⟨10, _⟩ => ⟨S5760x2880, .f32⟩
  | .hbm, ⟨11, _⟩ => ⟨S6144x5760x1, .bf16⟩
  | .hbm, ⟨12, _⟩ => ⟨S6144x5760, .bf16⟩
  | .hbm, ⟨13, _⟩ => ⟨S6144x2880x1, .bf16⟩
  | .hbm, ⟨14, _⟩ => ⟨S6144x2880, .bf16⟩
  | .hbm, ⟨15, _⟩ => ⟨S5760x2880, .f32⟩
  | .hbm, ⟨16, _⟩ => ⟨S5760x2880, .f32⟩
  | _, _ => ⟨S6144x5760, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.KPoints.lean ====
/- Where the pipeline of `Kernel` writes its result back, and its staging buffers and body at a point. -/
module

public import proofs.«01_k».proof.Proof.Gen.Kernel
public import Idealize.ShloMosaic.Lib.Pipeline.Kit

@[expose] public section

noncomputable section

namespace Cert.Kernel.Own

open Cert.Kernel.Gen
open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
/-- Window 2 (result 0 (%0)) is written back at the points ≡ 23 (mod 24), at any contents of the tables (its index map reads none). -/
theorem flush0_2 (a : (pcfg0 (F := F)).Adm) : ∀ t : Fin (cfg0 a).N, ((cfg0 a).win 2).flush t = true ↔ t.val % 24 = 23 :=
  (fun t => Pipeline.Window.flushOf_reads cc0_transform_2 reads0_2 hreads0_2 0 (by decide) (by decide) (Pipeline.Window.sep_of_coord cc0_transform_2 0 0 (fun _ => rfl) (by decide)) (P := 24) (m := 23) (by decide) rfl t : ∀ t : Fin grid0.N, Pipeline.Window.flushOf grid0 true cc0_transform_2 t = true ↔ t.val % 24 = 23)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_contract (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

end Cert.Kernel.Own

end
-- ==== Proof.KRuns.lean ====
/- What the runs of the body of `Kernel` share: the program up to its region, the table read off the memory, the windows
   blocks, the two branch conditions, and the staging and scratch buffers. -/
module

public import proofs.«01_k».proof.Proof.Gen.Kernel.Launch
public import proofs.«01_k».proof.Proof.Gen.Kernel.Skeleton
public import proofs.«01_k».proof.Proof.KPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c)⟩) h

/-! ## The body's branch conditions -/

/-- The condition of the body's `scf.if` 0 (`k0_h1`), from the grid coordinates. -/
abbrev cond0_0 (i : grid0.Coords) : Prop := k0_cond1 i = 1#1
/-- It holds at the points ≡ 0 (mod 24) — by arithmetic of the point. -/
theorem hcond0_0 : ∀ t : Fin grid0.N, cond0_0 (grid0.coords t) ↔ t.val % 24 = 0 :=
  (fun t => by
    have ht : t.val < 120 := Nat.lt_of_lt_of_eq t.isLt N_0
    have e0 : (grid0.coords t 0).val = t.val / 24 % 5 := Pipeline.Grid.coords_val t 0 (by decide) rfl
    have e1 : (grid0.coords t 1).val = t.val / 1 % 24 := Pipeline.Grid.coords_val t 1 (by decide) rfl
    simp only [cond0_0, k0_cond1, e0, e1]
    word_cmp
   : ∀ t : Fin grid0.N, cond0_0 (grid0.coords t) ↔ t.val % 24 = 0)

/-- The condition of the body's `scf.if` 1 at a point, over the table's contents `xt0`: the point's second
    coordinate is below the number of live chunks, which the body adds up from the table's six words. -/
abbrev live (c : Dev nD) (i : grid0.Coords) (xt0 : TbBuf0 (F := F) c tbM0_0) : Prop :=
  k0_cond2 i (tbM0_0.view.readAt (Elt F) (Rect.unit (s := S6) ![0] S1.size inb_S6_S1_0).toLoadRect xt0 (Shape.Idx.first (numel1_S1.symm ▸ Nat.one_pos))) (tbM0_0.view.readAt (Elt F) (Rect.unit (s := S6) ![1] S1.size inb_S6_S1_1).toLoadRect xt0 (Shape.Idx.first (numel1_S1.symm ▸ Nat.one_pos))) (tbM0_0.view.readAt (Elt F) (Rect.unit (s := S6) ![2] S1.size inb_S6_S1_2).toLoadRect xt0 (Shape.Idx.first (numel1_S1.symm ▸ Nat.one_pos))) (tbM0_0.view.readAt (Elt F) (Rect.unit (s := S6) ![3] S1.size inb_S6_S1_3).toLoadRect xt0 (Shape.Idx.first (numel1_S1.symm ▸ Nat.one_pos))) (tbM0_0.view.readAt (Elt F) (Rect.unit (s := S6) ![4] S1.size inb_S6_S1_4).toLoadRect xt0 (Shape.Idx.first (numel1_S1.symm ▸ Nat.one_pos))) (tbM0_0.view.readAt (Elt F) (Rect.unit (s := S6) ![5] S1.size inb_S6_S1_5).toLoadRect xt0 (Shape.Idx.first (numel1_S1.symm ▸ Nat.one_pos))) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x1152 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2944 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1152x2880 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S576x512 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Own

end
-- ==== Proof.KRunA.lean ====
/- The run of the body of `Kernel` in case A: on any staging buffers, with the pieces its stores leave as the witness the run finds. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken: points 0, 24, 48, 72, 96): on whole staging memrefs — the inputs' at their contents,
    the FORGOTTEN outputs' (2) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x512 .i32) (harg6 : arg6.IsWhole) (hc0 : cond0_0 i)
    (x0 : Vec F S256x1152 .i32) (x1 : Vec F S256x2944 .i32) (xt0 : TbBuf0 (F := F) c tbM0_0) (hc1 : live c i xt0) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K := by
    intro E K
    simp only [cc0_contract_eq_skeleton]; unfold cc0_contract_skel
    simp only [k0_part4_eq_skeleton, k0_part5_eq_skeleton, k0_part6_eq_skeleton, k0_part1_eq_skeleton, k0_part2_eq_skeleton, k0_part3_eq_skeleton]
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HS0]
    · iexists _, _; isplitr; swap; · iexact HS0
      ipureintro; rfl
    iexact HT0

end Cert.Kernel.Own

end
-- ==== Proof.KRunB.lean ====
/- The run of the body of `Kernel` in case B: on any staging buffers, with the pieces its stores leave as the witness the run finds. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 taken, `scf.if` 1 not taken: points 0, 24, 48, 72, 96): on whole staging memrefs — the inputs' at their contents,
    the FORGOTTEN outputs' (2) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x512 .i32) (harg6 : arg6.IsWhole) (hc0 : cond0_0 i)
    (x0 : Vec F S256x1152 .i32) (x1 : Vec F S256x2944 .i32) (xt0 : TbBuf0 (F := F) c tbM0_0) (hc1 : ¬live c i xt0) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K := by
    intro E K
    simp only [cc0_contract_eq_skeleton]; unfold cc0_contract_skel
    simp only [k0_part4_eq_skeleton, k0_part5_eq_skeleton, k0_part6_eq_skeleton]
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HS0]
    · iexists _, _; isplitr; swap; · iexact HS0
      ipureintro; rfl
    iexact HT0

end Cert.Kernel.Own

end
-- ==== Proof.KRunC.lean ====
/- The run of the body of `Kernel` in case C: on any staging buffers, with the pieces its stores leave as the witness the run finds. -/
module

public import proofs.«01_k».proof.Proof.KRunB

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken: points 1, 2, … 119: 115 of 120): on whole staging memrefs — the inputs' at their contents,
    the FORGOTTEN outputs' (2) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x512 .i32) (harg6 : arg6.IsWhole) (hc0 : ¬cond0_0 i)
    (x0 : Vec F S256x1152 .i32) (x1 : Vec F S256x2944 .i32) (xt0 : TbBuf0 (F := F) c tbM0_0) (hc1 : live c i xt0) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K := by
    intro E K
    simp only [cc0_contract_eq_skeleton]; unfold cc0_contract_skel
    simp only [k0_part4_eq_skeleton, k0_part5_eq_skeleton, k0_part6_eq_skeleton, k0_part1_eq_skeleton, k0_part2_eq_skeleton, k0_part3_eq_skeleton]
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HS0]
    · iexists _, _; isplitr; swap; · iexact HS0
      ipureintro; rfl
    iexact HT0

end Cert.Kernel.Own

end
-- ==== Proof.KRunD.lean ====
/- The run of the body of `Kernel` in case D: on any staging buffers, with the pieces its stores leave as the witness the run finds. -/
module

public import proofs.«01_k».proof.Proof.KRunC

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken: points 1, 2, … 119: 115 of 120): on whole staging memrefs — the inputs' at their contents,
    the FORGOTTEN outputs' (2) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x512 .i32) (harg6 : arg6.IsWhole) (hc0 : ¬cond0_0 i)
    (x0 : Vec F S256x1152 .i32) (x1 : Vec F S256x2944 .i32) (xt0 : TbBuf0 (F := F) c tbM0_0) (hc1 : ¬live c i xt0) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K := by
    intro E K
    simp only [cc0_contract_eq_skeleton]; unfold cc0_contract_skel
    simp only [k0_part4_eq_skeleton, k0_part5_eq_skeleton, k0_part6_eq_skeleton]
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HS0]
    · iexists _, _; isplitr; swap; · iexact HS0
      ipureintro; rfl
    iexact HT0

end Cert.Kernel.Own

end
-- ==== Proof.KFrame.lean ====
/- The frame of `Kernel`: from any memory whose table is admissible, it ends with its arguments unchanged. -/
module

public import proofs.«01_k».proof.Proof.KRunD
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2): nothing reads what the kernel leaves in them, so nothing
    of it is named (Lib/Pipeline/Dat.lean `Dat.toRForget`). -/
def forgets0 : Fin 3 → Bool := fun w => w.val == 2

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ (∃ d, owns (c : Thread nD τ) (ms0_2 m hO t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1]
  rw [show (dats m hO 0 c).Φ t.castSucc = iprop(Pipeline.ΦA spec0 c ∗ Pipeline.ΦT pre0 (tbl m) c) from rfl, PhiT0_eq, PhiA0_eq]
  have hN : t.val < 120 := lt_of_lt_of_eq t.isLt (show (cfgM m hO).N = 120 from N_0)
  by_cases h0 : t.val % 24 = 0
  · by_cases h1 : live c (grid0.coords t) (tbl m 0)
    · iintro ⟨⟨⟨HS0, Hg⟩, HT0⟩, Ho, ⟨%d0, H0⟩, ⟨%d1, H1⟩, ⟨%d2, H2⟩⟩
      iapply ((kernelRun0_A c (grid0.coords t) _ _ _ _ _ _ _ _ ((hcond0_0 t).mpr h0) (iblk m hO c 0 t) (iblk m hO c 1 t) (tbl m 0) h1) Set.univ _)
      isplitl [H0]; · iexact H0
      isplitl [H1]; · iexact H1
      isplitl [H2]; · iexists _; iexact H2
      isplitl [HS0]; · iexact HS0
      isplitl [HT0]; · iexact HT0
      iintro ⟨H0, H1, H2, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      iexact H2
    · iintro ⟨⟨⟨HS0, Hg⟩, HT0⟩, Ho, ⟨%d0, H0⟩, ⟨%d1, H1⟩, ⟨%d2, H2⟩⟩
      iapply ((kernelRun0_B c (grid0.coords t) _ _ _ _ _ _ _ _ ((hcond0_0 t).mpr h0) (iblk m hO c 0 t) (iblk m hO c 1 t) (tbl m 0) h1) Set.univ _)
      isplitl [H0]; · iexact H0
      isplitl [H1]; · iexact H1
      isplitl [H2]; · iexists _; iexact H2
      isplitl [HS0]; · iexact HS0
      isplitl [HT0]; · iexact HT0
      iintro ⟨H0, H1, H2, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      iexact H2
  · by_cases h1 : live c (grid0.coords t) (tbl m 0)
    · iintro ⟨⟨⟨HS0, Hg⟩, HT0⟩, Ho, ⟨%d0, H0⟩, ⟨%d1, H1⟩, ⟨%d2, H2⟩⟩
      iapply ((kernelRun0_C c (grid0.coords t) _ _ _ _ _ _ _ _ (fun h => h0 ((hcond0_0 t).mp h)) (iblk m hO c 0 t) (iblk m hO c 1 t) (tbl m 0) h1) Set.univ _)
      isplitl [H0]; · iexact H0
      isplitl [H1]; · iexact H1
      isplitl [H2]; · iexists _; iexact H2
      isplitl [HS0]; · iexact HS0
      isplitl [HT0]; · iexact HT0
      iintro ⟨H0, H1, H2, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      iexact H2
    · iintro ⟨⟨⟨HS0, Hg⟩, HT0⟩, Ho, ⟨%d0, H0⟩, ⟨%d1, H1⟩, ⟨%d2, H2⟩⟩
      iapply ((kernelRun0_D c (grid0.coords t) _ _ _ _ _ _ _ _ (fun h => h0 ((hcond0_0 t).mp h)) (iblk m hO c 0 t) (iblk m hO c 1 t) (tbl m 0) h1) Set.univ _)
      isplitl [H0]; · iexact H0
      isplitl [H1]; · iexact H1
      isplitl [H2]; · iexists _; iexact H2
      isplitl [HS0]; · iexact HS0
      isplitl [HT0]; · iexact HT0
      iintro ⟨H0, H1, H2, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO 0 c).toRForget forgets0) (A_eq m hO) (run_main m ρ hO)

/-- The frame: the run ends, the argument arrays are unchanged and every semaphore counter is zero, for every contents of the
    table of lengths under `Ok m`, which says that the blocks the table names are inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.Kernel.Own

end
-- ==== Proof.Words.lean ====
/- The index words the kernel computes from the table of lengths: how many chunks of 512 rows each sequence has, how many there are in
   all, and which chunk of the packed arrays a step of the second grid axis reads. Words first, then the natural numbers they are. -/
module

public import Idealize.ShloMosaic.PureOps
public import Idealize.ShloMosaic.Lib.WordArith

@[expose] public section

namespace Cert.Words

open Idealize.ShloMosaic

/-- `(w + 511) // 512` as printed: the quotient toward zero, less one where the signs differ and a remainder is left. -/
def cdiv (w : BitVec 32) : BitVec 32 :=
  let v := Scalar.subi (Scalar.addi w 512#32) 1#32
  let q := Scalar.divsi v 512#32
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 512#32 0#32)) (Scalar.extui (Scalar.cmpi .slt 512#32 0#32))))
      (Scalar.cmpi .ne (Scalar.remsi v 512#32) 0#32))
    (Scalar.subi q 1#32) q

/-- The number of live chunks, as a word. -/
def totalW (c0 c1 c2 c3 c4 c5 : BitVec 32) : BitVec 32 :=
  Scalar.addi (Scalar.addi (Scalar.addi (Scalar.addi (Scalar.addi (Scalar.addi 0#32 c0) c1) c2) c3) c4) c5

/-- One step of the search for the sequence a live chunk belongs to. -/
def pickW (kk off base prev : BitVec 32) : BitVec 32 :=
  Scalar.select (Scalar.cmpi .sge kk off) (Scalar.subi (Scalar.addi base kk) off) prev

/-- The chunk step `k` reads, as a word, from the six chunk counts. -/
def chunkW (c0 c1 c2 c3 c4 c5 k : BitVec 32) : BitVec 32 :=
  let kk := Scalar.minsi k (Scalar.maxsi (Scalar.subi (totalW c0 c1 c2 c3 c4 c5) 1#32) 0#32)
  let o1 := Scalar.addi 0#32 c0
  let o2 := Scalar.addi o1 c1
  let o3 := Scalar.addi o2 c2
  let o4 := Scalar.addi o3 c3
  let o5 := Scalar.addi o4 c4
  pickW kk o5 20#32 (pickW kk o4 16#32 (pickW kk o3 12#32 (pickW kk o2 8#32 (pickW kk o1 4#32 (pickW kk 0#32 0#32 0#32)))))

/-! ## The same in natural numbers -/

def pick (kk off base prev : ℕ) : ℕ := if off ≤ kk then base + kk - off else prev

def total (c : Fin 6 → ℕ) : ℕ := c 0 + c 1 + c 2 + c 3 + c 4 + c 5

def chunk (c : Fin 6 → ℕ) (k : ℕ) : ℕ :=
  let kk := min k (total c - 1)
  pick kk (c 0 + c 1 + c 2 + c 3 + c 4) 20 (pick kk (c 0 + c 1 + c 2 + c 3) 16 (pick kk (c 0 + c 1 + c 2) 12
    (pick kk (c 0 + c 1) 8 (pick kk (c 0) 4 kk))))

/-- The chunks of a sequence of length `n`. -/
def chunks (n : ℕ) : ℕ := (n + 511) / 512

theorem chunks_le {n : ℕ} (h : n ≤ 2048) : chunks n ≤ 4 := by unfold chunks; omega

set_option maxRecDepth 100000 in
theorem cdiv_all : ∀ n : Fin 2049, cdiv (BitVec.ofNat 32 n.val) = BitVec.ofNat 32 (chunks n.val) := by decide +kernel

theorem cdiv_eq (w : BitVec 32) (h : w.toNat ≤ 2048) : cdiv w = BitVec.ofNat 32 (chunks w.toNat) := by
  have := cdiv_all ⟨w.toNat, by omega⟩
  dsimp only at this
  rwa [BitVec.ofNat_toNat, BitVec.setWidth_eq] at this

theorem addi_ofNat (a b : ℕ) : Scalar.addi (BitVec.ofNat 32 a) (BitVec.ofNat 32 b) = BitVec.ofNat 32 (a + b) := by
  unfold Scalar.addi IntOp.addi; rw [BitVec.ofNat_add]

theorem subi_ofNat (a b : ℕ) (h : b ≤ a) : Scalar.subi (BitVec.ofNat 32 a) (BitVec.ofNat 32 b) = BitVec.ofNat 32 (a - b) := by
  obtain ⟨d, rfl⟩ := Nat.exists_eq_add_of_le h
  unfold Scalar.subi IntOp.subi
  rw [Nat.add_sub_cancel_left, BitVec.ofNat_add, BitVec.add_comm, BitVec.add_sub_cancel]

theorem slt_ofNat (a b : ℕ) (ha : a < 2 ^ 31) (hb : b < 2 ^ 31) : (BitVec.ofNat 32 a).slt (BitVec.ofNat 32 b) = decide (a < b) := by
  rw [BitVec.slt_eq_decide, WordArith.toInt_ofNat_small a ha, WordArith.toInt_ofNat_small b hb]; simp

theorem sle_ofNat (a b : ℕ) (ha : a < 2 ^ 31) (hb : b < 2 ^ 31) : (BitVec.ofNat 32 a).sle (BitVec.ofNat 32 b) = decide (a ≤ b) := by
  rw [BitVec.sle_eq_decide, WordArith.toInt_ofNat_small a ha, WordArith.toInt_ofNat_small b hb]; simp

theorem pickW_ofNat (kk off base prev : ℕ) (hk : kk < 2 ^ 31) (ho : off < 2 ^ 31) :
    pickW (BitVec.ofNat 32 kk) (BitVec.ofNat 32 off) (BitVec.ofNat 32 base) (BitVec.ofNat 32 prev) = BitVec.ofNat 32 (pick kk off base prev) := by
  unfold pickW pick Scalar.cmpi IntOp.cmpi
  dsimp only
  rw [sle_ofNat _ _ ho hk]
  by_cases h : off ≤ kk
  · rw [if_pos h, decide_eq_true h, addi_ofNat, subi_ofNat _ _ (by omega)]; rfl
  · rw [if_neg h, decide_eq_false h]; rfl

theorem totalW_ofNat (c : Fin 6 → ℕ) :
    totalW (BitVec.ofNat 32 (c 0)) (BitVec.ofNat 32 (c 1)) (BitVec.ofNat 32 (c 2)) (BitVec.ofNat 32 (c 3)) (BitVec.ofNat 32 (c 4))
      (BitVec.ofNat 32 (c 5)) = BitVec.ofNat 32 (total c) := by
  unfold totalW total
  rw [show (0#32 : BitVec 32) = BitVec.ofNat 32 0 from rfl]
  simp only [addi_ofNat, Nat.zero_add]

/-- `min(k, max(total − 1, 0))`. -/
theorem clamp_ofNat (k t : ℕ) (hk : k < 2 ^ 31) (ht : t < 2 ^ 31) :
    Scalar.minsi (BitVec.ofNat 32 k) (Scalar.maxsi (Scalar.subi (BitVec.ofNat 32 t) 1#32) 0#32) = BitVec.ofNat 32 (min k (t - 1)) := by
  have e : Scalar.maxsi (Scalar.subi (BitVec.ofNat 32 t) 1#32) 0#32 = BitVec.ofNat 32 (t - 1) := by
    rcases Nat.eq_zero_or_pos t with rfl | h
    · decide
    · rw [show (1#32 : BitVec 32) = BitVec.ofNat 32 1 from rfl, subi_ofNat t 1 h, show (0#32 : BitVec 32) = BitVec.ofNat 32 0 from rfl]
      unfold Scalar.maxsi IntOp.maxsi
      rw [slt_ofNat _ _ (Nat.two_pow_pos 31) (by omega)]
      by_cases h' : 0 < t - 1
      · rw [decide_eq_true h', if_pos rfl]
      · rw [decide_eq_false h', if_neg Bool.false_ne_true, show t - 1 = 0 by omega]
  rw [e]
  unfold Scalar.minsi IntOp.minsi
  rw [slt_ofNat _ _ hk (by omega)]
  by_cases h : k < t - 1
  · rw [decide_eq_true h, if_pos rfl, Nat.min_eq_left h.le]
  · rw [decide_eq_false h, if_neg Bool.false_ne_true, Nat.min_eq_right (by omega)]

theorem chunkW_ofNat (c : Fin 6 → ℕ) (hc : ∀ i, c i ≤ 4) (k : ℕ) (hk : k < 24) :
    chunkW (BitVec.ofNat 32 (c 0)) (BitVec.ofNat 32 (c 1)) (BitVec.ofNat 32 (c 2)) (BitVec.ofNat 32 (c 3)) (BitVec.ofNat 32 (c 4))
      (BitVec.ofNat 32 (c 5)) (BitVec.ofNat 32 k) = BitVec.ofNat 32 (chunk c k) := by
  have h0 := hc 0; have h1 := hc 1; have h2 := hc 2; have h3 := hc 3; have h4 := hc 4; have h5 := hc 5
  unfold chunkW chunk
  dsimp only
  rw [totalW_ofNat, clamp_ofNat _ _ (by omega) (by unfold total; omega)]
  have hkk : min k (total c - 1) < 2 ^ 31 := by omega
  simp only [show (0#32 : BitVec 32) = BitVec.ofNat 32 0 from rfl, show (4#32 : BitVec 32) = BitVec.ofNat 32 4 from rfl,
    show (8#32 : BitVec 32) = BitVec.ofNat 32 8 from rfl, show (12#32 : BitVec 32) = BitVec.ofNat 32 12 from rfl,
    show (16#32 : BitVec 32) = BitVec.ofNat 32 16 from rfl, show (20#32 : BitVec 32) = BitVec.ofNat 32 20 from rfl, addi_ofNat, Nat.zero_add]
  rw [pickW_ofNat _ _ _ _ hkk (by omega), pickW_ofNat _ _ _ _ hkk (by omega), pickW_ofNat _ _ _ _ hkk (by omega),
    pickW_ofNat _ _ _ _ hkk (by omega), pickW_ofNat _ _ _ _ hkk (by omega), pickW_ofNat _ _ _ _ hkk (by omega)]
  rw [show pick (min k (total c - 1)) 0 0 0 = min k (total c - 1) by unfold pick; rw [if_pos (Nat.zero_le _)]; omega]

/-- The chunk read is one of the twenty-four there are. -/
theorem chunk_lt (c : Fin 6 → ℕ) (hc : ∀ i, c i ≤ 4) (k : ℕ) (hk : k < 24) : chunk c k < 24 := by
  have h0 := hc 0; have h1 := hc 1; have h2 := hc 2; have h3 := hc 3; have h4 := hc 4; have h5 := hc 5
  unfold chunk pick total
  dsimp only
  split_ifs <;> omega

/-! ## A sum over the live chunks -/

/-- Chunk `l` of sequence `j`, where it is live, is read at the step the sequences before it leave off plus `l`. -/
theorem sum_live {M : Type*} [AddCommMonoid M] (c : Fin 6 → ℕ) (hc : ∀ i, c i ≤ 4) (f : ℕ → M)
    (hf : ∀ (j : Fin 6) l, c j ≤ l → l < 4 → f (4 * j.val + l) = 0) :
    ∑ k ∈ Finset.range (total c), f (chunk c k) = ∑ x ∈ Finset.range 24, f x := by
  have h0 := hc 0; have h1 := hc 1; have h2 := hc 2; have h3 := hc 3; have h4 := hc 4; have h5 := hc 5
  have ext : ∀ j : Fin 6, ∑ l ∈ Finset.range (c j), f (4 * j.val + l) = ∑ l ∈ Finset.range 4, f (4 * j.val + l) := fun j =>
    Finset.sum_subset (Finset.range_subset_range.mpr (hc j)) fun l hl hn =>
      hf j l (by simpa using hn) (by simpa using hl)
  rw [show (24 : ℕ) = 4 + 4 + 4 + 4 + 4 + 4 from rfl]
  conv_lhs => rw [show total c = c 0 + c 1 + c 2 + c 3 + c 4 + c 5 from rfl]
  simp only [Finset.sum_range_add]
  refine congrArg₂ _ (congrArg₂ _ (congrArg₂ _ (congrArg₂ _ (congrArg₂ _ ?_ ?_) ?_) ?_) ?_) ?_
  · refine ((Finset.sum_congr rfl fun l hl => ?_).trans (ext 0)).trans (Finset.sum_congr rfl fun l _ => by congr 1; show 4 * 0 + l = l; omega)
    have hl := Finset.mem_range.mp hl
    congr 1; show _ = 4 * 0 + l; unfold chunk pick total; dsimp only; split_ifs <;> omega
  · refine ((Finset.sum_congr rfl fun l hl => ?_).trans (ext 1)).trans (Finset.sum_congr rfl fun l _ => by congr 1)
    have hl := Finset.mem_range.mp hl
    congr 1; show _ = 4 * 1 + l; unfold chunk pick total; dsimp only; split_ifs <;> omega
  · refine ((Finset.sum_congr rfl fun l hl => ?_).trans (ext 2)).trans (Finset.sum_congr rfl fun l _ => by congr 1)
    have hl := Finset.mem_range.mp hl
    congr 1; show _ = 4 * 2 + l; unfold chunk pick total; dsimp only; split_ifs <;> omega
  · refine ((Finset.sum_congr rfl fun l hl => ?_).trans (ext 3)).trans (Finset.sum_congr rfl fun l _ => by congr 1)
    have hl := Finset.mem_range.mp hl
    congr 1; show _ = 4 * 3 + l; unfold chunk pick total; dsimp only; split_ifs <;> omega
  · refine ((Finset.sum_congr rfl fun l hl => ?_).trans (ext 4)).trans (Finset.sum_congr rfl fun l _ => by congr 1)
    have hl := Finset.mem_range.mp hl
    congr 1; show _ = 4 * 4 + l; unfold chunk pick total; dsimp only; split_ifs <;> omega
  · refine ((Finset.sum_congr rfl fun l hl => ?_).trans (ext 5)).trans (Finset.sum_congr rfl fun l _ => by congr 1)
    have hl := Finset.mem_range.mp hl
    congr 1; show _ = 4 * 5 + l; unfold chunk pick total; dsimp only; split_ifs <;> omega

end Cert.Words
-- ==== Proof.KTable.lean ====
/- The table of lengths read by `Kernel`: the words its index maps compute, and that every block they name is inside its array. -/
module

public import proofs.«01_k».proof.Proof.Gen.Kernel
public import proofs.«01_k».proof.Proof.Words

@[expose] public section

set_option maxRecDepth 16384

noncomputable section

namespace Cert.Kernel.Own

open Cert.Kernel.Gen
open Idealize.ShloMosaic Idealize.ShloMosaic.TcCoe
open Cert.Words

variable {F : FTy → Type} [FloatOps F]

/-- Word `k` of the table. -/
def word (pf : pre0.Contents (Elt F)) (k : Fin 6) : BitVec 32 :=
  (pf 0 : S6.Idx → BitVec 32) (fun a => ⟨k.val, match a with | ⟨0, _⟩ => k.isLt⟩)

/-- Every length is at most 2048, read as a natural number. -/
def InRange (pf : pre0.Contents (Elt F)) : Prop := ∀ k, (word pf k).toNat ≤ 2048

/-- The chunk counts of the six sequences. -/
def cnt (pf : pre0.Contents (Elt F)) (k : Fin 6) : ℕ := chunks (word pf k).toNat

theorem cnt_le (pf : pre0.Contents (Elt F)) (h : InRange pf) (k : Fin 6) : cnt pf k ≤ 4 := chunks_le (h k)

theorem cdiv_word (pf : pre0.Contents (Elt F)) (h : InRange pf) (k : Fin 6) : cdiv (word pf k) = BitVec.ofNat 32 (cnt pf k) := cdiv_eq _ (h k)

theorem at_word (pf : pre0.Contents (Elt F)) (k : ℕ) (hk : k < 6) (hi : ∀ a, (![k] : Fin 1 → Nat) a + S1.size a ≤ S6.size a) (h1 : S1.numel = 1) :
    pf.at 0 (Rect.unit (s := S6) ![k] S1.size hi) h1 = word pf ⟨k, hk⟩ := by
  unfold word
  show (pf 0 : S6.Idx → BitVec 32) _ = _
  congr 1
  funext a
  apply Fin.ext
  match a with
  | ⟨0, _⟩ => show k + 1 * (Shape.Idx.first _ _).val = k; simp [Shape.Idx.first]

theorem transform_0_words (pf : pre0.Contents (Elt F)) (i : grid0.Coords) :
    cc0_transform_0 inb_S6_S1_0 numel1_S1 inb_S6_S1_1 inb_S6_S1_2 inb_S6_S1_3 inb_S6_S1_4 inb_S6_S1_5 pf i
      = ![(chunkW (cdiv (pf.at 0 (Rect.unit (s := S6) ![0] S1.size inb_S6_S1_0) numel1_S1)) (cdiv (pf.at 0 (Rect.unit (s := S6) ![1] S1.size inb_S6_S1_1) numel1_S1))
            (cdiv (pf.at 0 (Rect.unit (s := S6) ![2] S1.size inb_S6_S1_2) numel1_S1)) (cdiv (pf.at 0 (Rect.unit (s := S6) ![3] S1.size inb_S6_S1_3) numel1_S1))
            (cdiv (pf.at 0 (Rect.unit (s := S6) ![4] S1.size inb_S6_S1_4) numel1_S1)) (cdiv (pf.at 0 (Rect.unit (s := S6) ![5] S1.size inb_S6_S1_5) numel1_S1))
            (BitVec.ofNat 32 (i 1).val)).toNat, (BitVec.ofNat 32 (i 0).val).toNat] := rfl

theorem transform_1_words (pf : pre0.Contents (Elt F)) (i : grid0.Coords) :
    cc0_transform_1 inb_S6_S1_0 numel1_S1 inb_S6_S1_1 inb_S6_S1_2 inb_S6_S1_3 inb_S6_S1_4 inb_S6_S1_5 pf i
      = ![(chunkW (cdiv (pf.at 0 (Rect.unit (s := S6) ![0] S1.size inb_S6_S1_0) numel1_S1)) (cdiv (pf.at 0 (Rect.unit (s := S6) ![1] S1.size inb_S6_S1_1) numel1_S1))
            (cdiv (pf.at 0 (Rect.unit (s := S6) ![2] S1.size inb_S6_S1_2) numel1_S1)) (cdiv (pf.at 0 (Rect.unit (s := S6) ![3] S1.size inb_S6_S1_3) numel1_S1))
            (cdiv (pf.at 0 (Rect.unit (s := S6) ![4] S1.size inb_S6_S1_4) numel1_S1)) (cdiv (pf.at 0 (Rect.unit (s := S6) ![5] S1.size inb_S6_S1_5) numel1_S1))
            (BitVec.ofNat 32 (i 1).val)).toNat, (0#32).toNat] := rfl

theorem i1_lt (i : grid0.Coords) : (i 1).val < 24 := (i 1).isLt
theorem i0_lt (i : grid0.Coords) : (i 0).val < 5 := (i 0).isLt

theorem chunkW_words (pf : pre0.Contents (Elt F)) (h : InRange pf) (i : grid0.Coords) :
    (chunkW (cdiv (word pf 0)) (cdiv (word pf 1)) (cdiv (word pf 2)) (cdiv (word pf 3)) (cdiv (word pf 4)) (cdiv (word pf 5))
      (BitVec.ofNat 32 (i 1).val)).toNat = chunk (cnt pf) (i 1).val := by
  have hl := chunk_lt (cnt pf) (cnt_le pf h) _ (i1_lt i)
  simp only [cdiv_word pf h]
  rw [chunkW_ofNat (cnt pf) (cnt_le pf h) _ (i1_lt i), WordArith.toNat_ofNat_of_lt _ (by omega)]

/-- The first window's block at a point: the chunk the step reads, and the column block of the first axis. -/
theorem transform_0_eq (pf : pre0.Contents (Elt F)) (h : InRange pf) (i : grid0.Coords) :
    cc0_transform_0 inb_S6_S1_0 numel1_S1 inb_S6_S1_1 inb_S6_S1_2 inb_S6_S1_3 inb_S6_S1_4 inb_S6_S1_5 pf i
      = ![chunk (cnt pf) (i 1).val, (i 0).val] := by
  rw [transform_0_words, at_word pf 0 (by decide), at_word pf 1 (by decide), at_word pf 2 (by decide), at_word pf 3 (by decide),
    at_word pf 4 (by decide), at_word pf 5 (by decide)]
  have h0 := i0_lt i
  exact congrArg₂ (fun a b => ![a, b]) (chunkW_words pf h i) (WordArith.toNat_ofNat_of_lt _ (by omega))

/-- The second window's block at a point: the chunk the step reads, all columns. -/
theorem transform_1_eq (pf : pre0.Contents (Elt F)) (h : InRange pf) (i : grid0.Coords) :
    cc0_transform_1 inb_S6_S1_0 numel1_S1 inb_S6_S1_1 inb_S6_S1_2 inb_S6_S1_3 inb_S6_S1_4 inb_S6_S1_5 pf i
      = ![chunk (cnt pf) (i 1).val, 0] := by
  rw [transform_1_words, at_word pf 0 (by decide), at_word pf 1 (by decide), at_word pf 2 (by decide), at_word pf 3 (by decide),
    at_word pf 4 (by decide), at_word pf 5 (by decide)]
  exact congrArg₂ (fun a b => ![a, b]) (chunkW_words pf h i) rfl

/-- Lengths in range: every block the index maps name is inside its array. -/
theorem ok_of_range (pf : pre0.Contents (Elt F)) (h : InRange pf) : ok0 pf := by
  refine ⟨fun i => ⟨fun a => ?_, .inl rfl⟩, fun i => ⟨fun a => ?_, .inl rfl⟩⟩
  · rw [transform_0_eq pf h i]
    have hl := chunk_lt (cnt pf) (cnt_le pf h) _ (i1_lt i)
    have h0 := i0_lt i
    match a with
    | ⟨0, _⟩ => show (chunk (cnt pf) (i 1).val + 1) * 256 ≤ 6144; omega
    | ⟨1, _⟩ => show ((i 0).val + 1) * 1152 ≤ 5760; omega
  · rw [transform_1_eq pf h i]
    have hl := chunk_lt (cnt pf) (cnt_le pf h) _ (i1_lt i)
    match a with
    | ⟨0, _⟩ => show (chunk (cnt pf) (i 1).val + 1) * 256 ≤ 6144; omega
    | ⟨1, _⟩ => show (0 + 1) * 2944 ≤ 2944; omega

theorem cond2_words (i : grid0.Coords) (w0 w1 w2 w3 w4 w5 : BitVec 32) :
    k0_cond2 i w0 w1 w2 w3 w4 w5 = Scalar.cmpi .ne (Scalar.extui (Scalar.cmpi .slt (BitVec.ofNat 32 (i 1).val)
      (totalW (cdiv w0) (cdiv w1) (cdiv w2) (cdiv w3) (cdiv w4) (cdiv w5)))) 0#32 := rfl

/-- The body's second condition: the step is below the number of live chunks. -/
theorem cond2_iff (pf : pre0.Contents (Elt F)) (h : InRange pf) (i : grid0.Coords) :
    k0_cond2 i (word pf 0) (word pf 1) (word pf 2) (word pf 3) (word pf 4) (word pf 5) = 1#1 ↔ (i 1).val < total (cnt pf) := by
  rw [cond2_words]
  simp only [cdiv_word pf h]
  rw [totalW_ofNat (cnt pf)]
  have h1 := i1_lt i
  have ht : total (cnt pf) < 2 ^ 31 := by
    have h0 := cnt_le pf h 0; have h1 := cnt_le pf h 1; have h2 := cnt_le pf h 2; have h3 := cnt_le pf h 3; have h4 := cnt_le pf h 4
    have h5 := cnt_le pf h 5
    unfold total; omega
  have e : Scalar.cmpi .slt (BitVec.ofNat 32 (i 1).val) (BitVec.ofNat 32 (total (cnt pf))) = BitVec.ofBool (decide ((i 1).val < total (cnt pf))) :=
    congrArg BitVec.ofBool (slt_ofNat _ _ (by omega) ht)
  rw [e]
  by_cases hd : (i 1).val < total (cnt pf)
  · rw [decide_eq_true hd]; exact ⟨fun _ => hd, fun _ => by decide⟩
  · rw [decide_eq_false hd]; exact ⟨fun h => absurd h (by decide), fun h => absurd h hd⟩

end Cert.Kernel.Own

end
-- ==== Proof.IPoints.lean ====
/- Where the pipeline of `KernelIdeal` writes its result back, and its staging buffers and body at a point. -/
module

public import proofs.«01_k».proof.Proof.Gen.KernelIdeal
public import Idealize.ShloMosaic.Lib.Pipeline.Kit

@[expose] public section

noncomputable section

namespace Cert.KernelIdeal.Own

open Cert.KernelIdeal.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
/-- Window 2 (result 0 (%0)) is written back at the points ≡ 23 (mod 24), at any contents of the tables (its index map reads none). -/
theorem flush0_2 (a : (pcfg0 (F := F)).Adm) : ∀ t : Fin (cfg0 a).N, ((cfg0 a).win 2).flush t = true ↔ t.val % 24 = 23 :=
  (fun t => Pipeline.Window.flushOf_reads cc0_transform_2 reads0_2 hreads0_2 0 (by decide) (by decide) (Pipeline.Window.sep_of_coord cc0_transform_2 0 0 (fun _ => rfl) (by decide)) (P := 24) (m := 23) (by decide) rfl t : ∀ t : Fin grid0.N, Pipeline.Window.flushOf grid0 true cc0_transform_2 t = true ↔ t.val % 24 = 23)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_contract (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

end Cert.KernelIdeal.Own

end
-- ==== Proof.IRuns.lean ====
/- What the runs of the body of `KernelIdeal` share: the program up to its region, the table read off the memory, the windows
   blocks, the two branch conditions, and the staging and scratch buffers. -/
module

public import proofs.«01_k».proof.Proof.Gen.KernelIdeal.Launch
public import proofs.«01_k».proof.Proof.Gen.KernelIdeal.Skeleton
public import proofs.«01_k».proof.Proof.IPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c)⟩) h

/-! ## The body's branch conditions -/

/-- The condition of the body's `scf.if` 0 (`k0_h1`), from the grid coordinates. -/
abbrev cond0_0 (i : grid0.Coords) : Prop := k0_cond1 i = 1#1
/-- It holds at the points ≡ 0 (mod 24) — by arithmetic of the point. -/
theorem hcond0_0 : ∀ t : Fin grid0.N, cond0_0 (grid0.coords t) ↔ t.val % 24 = 0 :=
  (fun t => by
    have ht : t.val < 120 := Nat.lt_of_lt_of_eq t.isLt N_0
    have e0 : (grid0.coords t 0).val = t.val / 24 % 5 := Pipeline.Grid.coords_val t 0 (by decide) rfl
    have e1 : (grid0.coords t 1).val = t.val / 1 % 24 := Pipeline.Grid.coords_val t 1 (by decide) rfl
    simp only [cond0_0, k0_cond1, e0, e1]
    word_cmp
   : ∀ t : Fin grid0.N, cond0_0 (grid0.coords t) ↔ t.val % 24 = 0)

/-- The condition of the body's `scf.if` 1 at a point, over the table's contents `xt0`: the point's second
    coordinate is below the number of live chunks, which the body adds up from the table's six words. -/
abbrev live (c : Dev nD) (i : grid0.Coords) (xt0 : TbBuf0 (F := F) c tbM0_0) : Prop :=
  k0_cond2 i (tbM0_0.view.readAt (Elt F) (Rect.unit (s := S6) ![0] S1.size inb_S6_S1_0).toLoadRect xt0 (Shape.Idx.first (numel1_S1.symm ▸ Nat.one_pos))) (tbM0_0.view.readAt (Elt F) (Rect.unit (s := S6) ![1] S1.size inb_S6_S1_1).toLoadRect xt0 (Shape.Idx.first (numel1_S1.symm ▸ Nat.one_pos))) (tbM0_0.view.readAt (Elt F) (Rect.unit (s := S6) ![2] S1.size inb_S6_S1_2).toLoadRect xt0 (Shape.Idx.first (numel1_S1.symm ▸ Nat.one_pos))) (tbM0_0.view.readAt (Elt F) (Rect.unit (s := S6) ![3] S1.size inb_S6_S1_3).toLoadRect xt0 (Shape.Idx.first (numel1_S1.symm ▸ Nat.one_pos))) (tbM0_0.view.readAt (Elt F) (Rect.unit (s := S6) ![4] S1.size inb_S6_S1_4).toLoadRect xt0 (Shape.Idx.first (numel1_S1.symm ▸ Nat.one_pos))) (tbM0_0.view.readAt (Elt F) (Rect.unit (s := S6) ![5] S1.size inb_S6_S1_5).toLoadRect xt0 (Shape.Idx.first (numel1_S1.symm ▸ Nat.one_pos))) = 1#1

/-! ## The kernel body on any staging memrefs: a subtype the run finds -/

/-- One staging buffer of output window 2, through which its contents are stated (`View.read_writes_of_cover`: the
    choice does not matter). -/
abbrev VO0_2 : View sig .tc .vmem S1152x2880 .f32 := (Memref.whole cc0_stg2_0 : Memref sig .tc .vmem S1152x2880 .f32).view
/-- Each window's current staging memref at point `t`, spelled as the pipeline passes it (`bodyAt0`), and its wholeness. -/
abbrev ms0_0 (hO : Ok m) (t : Fin (cfgM m hO).N) : Memref sig .tc .vmem S256x1152 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2944 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1152x2880 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S576x2x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Own

end
-- ==== Proof.IRunA.lean ====
/- The run of the body of `KernelIdeal` in case A: on any staging buffers, with the pieces its stores leave as the witness the run finds. -/
module

public import proofs.«01_k».proof.Proof.IRuns

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0, 24, 48, 72, 96), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : cond0_0 i)
    (x0 : Vec F S256x1152 .i32) (x1 : Vec F S256x2944 .i32) (xt0 : TbBuf0 (F := F) c tbM0_0) (hc1 : live c i xt0) :
    Σ' (L2 : List (View.Piece (Elt F) S1152x2880 .f32)), { LT0 : List (View.Piece (Elt F) S576x2x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LT0) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K } := by
  refine ⟨?_, ?_, fun E K => ?run⟩
  case run =>
    simp only [cc0_contract_eq_skeleton]; unfold cc0_contract_skel
    simp only [k0_part4_eq_skeleton, k0_part5_eq_skeleton, k0_part6_eq_skeleton, k0_part1_eq_skeleton, k0_part2_eq_skeleton, k0_part3_eq_skeleton]
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexact HT0

end Cert.KernelIdeal.Own

end
-- ==== Proof.IRunB.lean ====
/- The run of the body of `KernelIdeal` in case B: on any staging buffers, with the pieces its stores leave as the witness the run finds. -/
module

public import proofs.«01_k».proof.Proof.IRunA

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 not taken: points 0, 24, 48, 72, 96), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : cond0_0 i)
    (x0 : Vec F S256x1152 .i32) (x1 : Vec F S256x2944 .i32) (xt0 : TbBuf0 (F := F) c tbM0_0) (hc1 : ¬live c i xt0) :
    Σ' (L2 : List (View.Piece (Elt F) S1152x2880 .f32)), { LT0 : List (View.Piece (Elt F) S576x2x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ d, owns (c : Thread nD τ) arg6 fullShare d) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K } := by
  refine ⟨?_, [], fun E K => ?run⟩
  case run =>
    simp only [cc0_contract_eq_skeleton]; unfold cc0_contract_skel
    simp only [k0_part4_eq_skeleton, k0_part5_eq_skeleton, k0_part6_eq_skeleton]
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]
    · iexists _, _; isplitr; swap; · iexact HS0
      ipureintro; rfl
    iexact HT0

end Cert.KernelIdeal.Own

end
-- ==== Proof.IRunC.lean ====
/- The run of the body of `KernelIdeal` in case C: on any staging buffers, with the pieces its stores leave as the witness the run finds. -/
module

public import proofs.«01_k».proof.Proof.IRunB

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 1, 2, … 119: 115 of 120), WITH the
    proof that on whole staging memrefs — the inputs' at their contents, the outputs it reads before covering (2) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : ¬cond0_0 i)
    (x0 : Vec F S256x1152 .i32) (x1 : Vec F S256x2944 .i32) (xt0 : TbBuf0 (F := F) c tbM0_0) (xo2 : Vec F S1152x2880 .f32) (hc1 : live c i xt0) :
    Σ' (L2 : List (View.Piece (Elt F) S1152x2880 .f32)), { LT0 : List (View.Piece (Elt F) S576x2x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ (∃ d, owns (c : Thread nD τ) arg6 fullShare d) ∗ tbPt0 c tbM0_0 xt0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LT0) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K } := by
  refine ⟨?_, ?_, fun E K => ?run⟩
  case run =>
    simp only [cc0_contract_eq_skeleton]; unfold cc0_contract_skel
    simp only [k0_part4_eq_skeleton, k0_part5_eq_skeleton, k0_part6_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%ds0, %fs0, -, HS0⟩, HT0, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexact HT0

end Cert.KernelIdeal.Own

end
-- ==== Proof.IRunD.lean ====
/- The run of the body of `KernelIdeal` in case D: on any staging buffers, with the pieces its stores leave as the witness the run finds. -/
module

public import proofs.«01_k».proof.Proof.IRunC

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (neither branch taken): it stores nothing, so it hands the output's buffer back as it found it. -/
theorem kernelRun0_D (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : ¬cond0_0 i)
    (x0 : Vec F S256x1152 .i32) (x1 : Vec F S256x2944 .i32) (xt0 : TbBuf0 (F := F) c tbM0_0) (xo2 : Vec F S1152x2880 .f32) (hc1 : ¬live c i xt0) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ (∃ d, owns (c : Thread nD τ) arg6 fullShare d) ∗ tbPt0 c tbM0_0 xt0
            ∗ (iprop(owns (c : Thread nD τ) arg3 fullShare x0 ∗ owns (c : Thread nD τ) arg4 fullShare x1 ∗ owns (c : Thread nD τ) arg5 fullShare xo2 ∗ (∃ d, owns (c : Thread nD τ) arg6 fullShare d) ∗ tbPt0 c tbM0_0 xt0) -∗ K ⟨⟩))
          ⊢ wp frame (wpE (defs₀ (F := F)) Variants.none c none) E (cc0_contract i tbM0_0 htbM0_0 arg3 harg3 arg4 harg4 arg5 harg5 arg6 harg6) K := by
    intro E K
    simp only [cc0_contract_eq_skeleton]; unfold cc0_contract_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%ds0, %fs0, -, HS0⟩, HT0, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [HS0]
    · iexists _, _; isplitr; swap; · iexact HS0
      ipureintro; rfl
    iexact HT0

end Cert.KernelIdeal.Own

end
-- ==== Proof.IPay.lean ====
/- The pure values the kernel's body computes, read at one index over the extended reals. -/
module

public import proofs.«01_k».proof.Proof.IRunD
public import Idealize.ShloMosaic.Lib.Pointwise
public import Idealize.ShloMosaic.Lib.BitcastPair
public import Idealize.ShloMosaic.Lib.BitcastConvert
public import Idealize.ShloMosaic.Lib.IdealHost
public import Idealize.ShloMosaic.Lib.Pipeline.ValueKit.Geometry
public import Idealize.ShloMosaic.Lib.Pipeline.ReadBack

@[expose] public section

set_option maxRecDepth 16384

noncomputable section

namespace Cert.KernelIdeal.Own

open Cert.KernelIdeal.Gen
open Idealize.ShloMosaic

/-- Half `p` of a 32-bit word, read as a bf16 number: the low half for `p = 0`, the high half for `p = 1`. -/
def half (w : BitVec 32) (p : ℕ) : EReal := Ideal.ofBits .bf16 (w.extractLsb' (16 * p) 16)

/-- Words viewed as twice as many rows of 16-bit halves, at row `r` and column `q`. -/
theorem bits_apply {A B : ℕ} (x : IVec ⟨2, ![A, B]⟩ 32) (h : Shape.Bitcasts ⟨2, ![A, B]⟩ 32 ⟨2, ![2 * A, B]⟩ 16)
    (r : Fin (2 * A)) (q : Fin B) :
    Ideal.ofBits .bf16 (bitcast ⟨2, ![2 * A, B]⟩ 16 x h (ix2 r q)) = half (x (ix2 ⟨r / 2, by omega⟩ q)) (r % 2) := by
  rw [bitcast_32_16]
  have hr : Shape.row (s := ⟨2, ![2 * A, B]⟩) (ix2 r q) = r := rfl
  unfold half
  have hi : h.srcIdx (ix2 r q) (Shape.row (s := ⟨2, ![2 * A, B]⟩) (ix2 r q) / 2) (fun a ha => by
      have := h.pos_lt (ix2 r q) 0 (by decide) a ha; omega) = ix2 ⟨r / 2, by omega⟩ q := by
    funext a
    match a with
    | ⟨0, _⟩ => exact Fin.ext (Shape.Bitcasts.srcIdx_row h _ _ _ 0 rfl)
    | ⟨1, _⟩ => exact Fin.ext (Shape.Bitcasts.srcIdx_other h _ _ _ 1 (by show ¬(1 + 2 = 2); omega))
  rw [hi]
  rfl

/-- The chunk's left factor as the body holds it: the transposed halves of the words of `x`, through the scratch. -/
theorem at_apply (x : Vec Ideal S256x1152 .i32) (a : Fin 1152) (k : Fin 512) :
    k0_pay5 (F := Ideal) (k0_pay4 x) (ix2 a k) = half (x (ix2 ⟨k / 2, by omega⟩ a)) (k % 2) := by
  have h := bits_apply (A := 256) (B := 1152) x bitcasts_S256x1152_w32_S512x1152_w16
  pointwise [k0_pay5, k0_pay4]
  split
  · rename_i hp
    refine (h k _).trans ?_
    have e : (⟨2 * (a.val / 2), by omega⟩ : Fin 1152) = a := Fin.ext (by dsimp only at *; omega)
    rw [e]
  · rename_i hp
    refine (h k _).trans ?_
    have e : (⟨2 * (a.val / 2) + 1, by omega⟩ : Fin 1152) = a := Fin.ext (by dsimp only at *; omega)
    rw [e]

/-- The product of a chunk's two blocks, at row `a` and column `b` of the result. -/
def prod (x0 : Vec Ideal S256x1152 .i32) (x1 : Vec Ideal S256x2944 .i32) (y : S1152x2880.Idx) : EReal :=
  ∑ k : Fin 512, half (x0 (ix2 ⟨k / 2, by omega⟩ (y 0))) (k % 2)
    * half (x1 (ix2 ⟨k / 2, by omega⟩ ⟨y 1, by have : (y 1).val < 2880 := (y 1).isLt; omega⟩)) (k % 2)

/-- A strip of 256 columns the body adds into the output block. -/
theorem strip_apply (x0 : Vec Ideal S256x1152 .i32) (w : Vec Ideal S256x256 .i32) (v : Vec Ideal S1152x256 .f32) (a : Fin 1152) (b : Fin 256) :
    k0_pay10 (F := Ideal) (k0_pay5 (k0_pay4 x0)) w v (ix2 a b)
      = v (ix2 a b) + ∑ k : Fin 512, half (x0 (ix2 ⟨k / 2, by omega⟩ a)) (k % 2) * half (w (ix2 ⟨k / 2, by omega⟩ b)) (k % 2) := by
  pointwise [k0_pay10]
  congr 1
  refine Finset.sum_congr rfl fun k _ => ?_
  rw [at_apply]
  exact congrArg _ (bits_apply (A := 256) (B := 256) w bitcasts_S256x256_w32_S512x256_w16 k b)

/-- The last strip: 64 columns of a product 128 wide. -/
theorem tail_apply (x0 : Vec Ideal S256x1152 .i32) (w : Vec Ideal S256x128 .i32) (v : Vec Ideal S1152x64 .f32) (a : Fin 1152) (b : Fin 64) :
    k0_pay3 (F := Ideal) (k0_pay5 (k0_pay4 x0)) w v (ix2 a b)
      = v (ix2 a b) + ∑ k : Fin 512, half (x0 (ix2 ⟨k / 2, by omega⟩ a)) (k % 2) * half (w (ix2 ⟨k / 2, by omega⟩ ⟨b, by omega⟩)) (k % 2) := by
  pointwise [k0_pay3]
  congr 1
  refine Finset.sum_congr rfl fun k _ => ?_
  rw [at_apply]
  exact congrArg _ (bits_apply (A := 256) (B := 128) w bitcasts_S256x128_w32_S512x128_w16 k _)

/-- A strip, from the blocks the body loads it from: the block it found plus the product, at the strip's place. -/
theorem strip_piece (x0 : Vec Ideal S256x1152 .i32) (x1 : Vec Ideal S256x2944 .i32) (o : Vec Ideal S1152x2880 .f32) {off : ℕ}
    (h1 : ∀ a, (![0, off] : Fin 2 → ℕ) a + S256x256.size a ≤ S256x2944.size a)
    (h2 : ∀ a, (![0, off] : Fin 2 → ℕ) a + S1152x256.size a ≤ S1152x2880.size a)
    (x : S1152x256.Idx) :
    k0_pay10 (F := Ideal) (k0_pay5 (k0_pay4 x0)) (View.ld x1 (Rect.unit (s := S256x2944) ![0, off] S256x256.size h1))
        (View.ld o (Rect.unit (s := S1152x2880) ![0, off] S1152x256.size h2)) x
      = o ((Rect.unit (s := S1152x2880) ![0, off] S1152x256.size h2).emb x) + prod x0 x1 ((Rect.unit (s := S1152x2880) ![0, off] S1152x256.size h2).emb x) := by
  have hx : x = ix2 (x 0) (x 1) := by funext a; match a with | ⟨0, _⟩ => rfl | ⟨1, _⟩ => rfl
  refine (congrArg _ hx).trans ((strip_apply x0 _ _ (x 0) (x 1)).trans ?_)
  unfold prod
  congr 1
  · exact congrArg (fun z => o ((Rect.unit (s := S1152x2880) ![0, off] S1152x256.size h2).emb z)) hx.symm
  · refine Finset.sum_congr rfl fun k _ => ?_
    congr 2
    · congr 2
      exact Fin.ext (by show (x 0).val = 0 + 1 * (x 0).val; omega)
    · show x1 ((Rect.unit (s := S256x2944) ![0, off] S256x256.size h1).emb (ix2 _ _)) = _
      congr 1
      funext a
      match a with
      | ⟨0, _⟩ => exact Fin.ext (by show 0 + 1 * (k.val / 2) = k.val / 2; omega)
      | ⟨1, _⟩ => rfl

theorem tail_piece (x0 : Vec Ideal S256x1152 .i32) (x1 : Vec Ideal S256x2944 .i32) (o : Vec Ideal S1152x2880 .f32)
    (h1 : ∀ a, (![0, 2816] : Fin 2 → ℕ) a + S256x128.size a ≤ S256x2944.size a)
    (h2 : ∀ a, (![0, 2816] : Fin 2 → ℕ) a + S1152x64.size a ≤ S1152x2880.size a)
    (x : S1152x64.Idx) :
    k0_pay3 (F := Ideal) (k0_pay5 (k0_pay4 x0)) (View.ld x1 (Rect.unit (s := S256x2944) ![0, 2816] S256x128.size h1))
        (View.ld o (Rect.unit (s := S1152x2880) ![0, 2816] S1152x64.size h2)) x
      = o ((Rect.unit (s := S1152x2880) ![0, 2816] S1152x64.size h2).emb x) + prod x0 x1 ((Rect.unit (s := S1152x2880) ![0, 2816] S1152x64.size h2).emb x) := by
  have hx : x = ix2 (x 0) (x 1) := by funext a; match a with | ⟨0, _⟩ => rfl | ⟨1, _⟩ => rfl
  refine (congrArg _ hx).trans ((tail_apply x0 _ _ (x 0) (x 1)).trans ?_)
  unfold prod
  congr 1
  · exact congrArg (fun z => o ((Rect.unit (s := S1152x2880) ![0, 2816] S1152x64.size h2).emb z)) hx.symm
  · refine Finset.sum_congr rfl fun k _ => ?_
    congr 2
    · congr 2
      exact Fin.ext (by show (x 0).val = 0 + 1 * (x 0).val; omega)
    · show x1 ((Rect.unit (s := S256x2944) ![0, 2816] S256x128.size h1).emb (ix2 _ _)) = _
      congr 1
      funext a
      match a with
      | ⟨0, _⟩ => exact Fin.ext (by show 0 + 1 * (k.val / 2) = k.val / 2; omega)
      | ⟨1, _⟩ => rfl

end Cert.KernelIdeal.Own
end
-- ==== Proof.IOut.lean ====
/- What the body leaves in the output's block, case by case, over the extended reals: the block it found (or zero) plus the
   chunk's product. -/
module

public import proofs.«01_k».proof.Proof.IPay
public import Idealize.ShloMosaic.Lib.Pipeline.ValueKit.Acc

@[expose] public section

set_option maxRecDepth 16384

noncomputable section

namespace Cert.KernelIdeal.Own

open Cert.KernelIdeal.Gen
open Idealize.ShloMosaic Idealize.ShloMosaic.TcCoe Idealize.ShloMosaic.Tactic

section C

variable (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : ¬cond0_0 i)
    (x0 : Vec Ideal S256x1152 .i32) (x1 : Vec Ideal S256x2944 .i32) (xt0 : TbBuf0 (F := Ideal) c tbM0_0) (xo : Vec Ideal S1152x2880 .f32) (hc1 : live c i xt0)

theorem raw_C : kernelRun0_C.sl.v139_raw (F := Ideal) c arg3 harg3 arg6 x0 = k0_pay4 x0 := by
  unfold kernelRun0_C.sl.v139_raw kernelRun0_C.sl.HS0_1
  rw [View.readCov_unit_lit' _ _ _ (by decide), View.readAt_eq_ld, harg3.read_unread, View.ld_unit_lit' _ _ (by decide)]

theorem cover_C (y : S1152x2880.Idx) :
    ∃ p ∈ (kernelRun0_C (F := Ideal) c i arg3 harg3 arg4 harg4 arg5 harg5 arg6 harg6 hc0 x0 x1 xt0 xo hc1).1, y ∈ p.1.set := by
  unfold kernelRun0_C
  dsimp only
  exact View.cover_of_tiledBy _ ![1152, 64] (by sl_kernel_rfl) y

theorem canon_C :
    View.canon (kernelRun0_C (F := Ideal) c i arg3 harg3 arg4 harg4 arg5 harg5 arg6 harg6 hc0 x0 x1 xt0 xo hc1).1
      = fun y => xo y + prod x0 x1 y := by
  have key : View.PiecesOf (fun y => xo y + prod x0 x1 y)
      (kernelRun0_C (F := Ideal) c i arg3 harg3 arg4 harg4 arg5 harg5 arg6 harg6 hc0 x0 x1 xt0 xo hc1).1 := by
    unfold kernelRun0_C
    dsimp only
    unfold kernelRun0_C.sl.r_9 kernelRun0_C.sl.r_8 kernelRun0_C.sl.r_7 kernelRun0_C.sl.r_6
    rw [raw_C]
    sl_unfold_words
    simp only [View.readAt_eq_ld, harg4.read_unread, harg5.read_unread]
    exact ⟨fun x => tail_piece x0 x1 xo _ _ x, fun x => strip_piece (off := 2560) x0 x1 xo _ _ x, fun x => strip_piece (off := 2304) x0 x1 xo _ _ x,
      fun x => strip_piece (off := 2048) x0 x1 xo _ _ x, fun x => strip_piece (off := 1792) x0 x1 xo _ _ x, fun x => strip_piece (off := 1536) x0 x1 xo _ _ x,
      fun x => strip_piece (off := 1280) x0 x1 xo _ _ x, fun x => strip_piece (off := 1024) x0 x1 xo _ _ x, fun x => strip_piece (off := 768) x0 x1 xo _ _ x,
      fun x => strip_piece (off := 512) x0 x1 xo _ _ x, fun x => strip_piece (off := 256) x0 x1 xo _ _ x, fun x => strip_piece (off := 0) x0 x1 xo _ _ x, trivial⟩
  exact funext fun y => View.canon_apply_of_pieces (fun y => xo y + prod x0 x1 y) _ key.mem y
    (cover_C c i arg3 harg3 arg4 harg4 arg5 harg5 arg6 harg6 hc0 x0 x1 xt0 xo hc1 y)

end C

section A

variable (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : cond0_0 i)
    (x0 : Vec Ideal S256x1152 .i32) (x1 : Vec Ideal S256x2944 .i32) (xt0 : TbBuf0 (F := Ideal) c tbM0_0) (hc1 : live c i xt0)

theorem raw_A : kernelRun0_A.sl.v139_raw (F := Ideal) c arg3 harg3 arg6 x0 = k0_pay4 x0 := by
  unfold kernelRun0_A.sl.v139_raw kernelRun0_A.sl.HS0_1
  rw [View.readCov_unit_lit' _ _ _ (by decide), View.readAt_eq_ld, harg3.read_unread, View.ld_unit_lit' _ _ (by decide)]

/-- The zero block the body stores first. -/
theorem pay1_eq : k0_pay1 (F := Ideal) = fun _ => (0 : EReal) := by
  funext y; pointwise [k0_pay1]

theorem zero_A_0 : kernelRun0_A.sl.v144 (F := Ideal) c arg5
    = View.ld (fun _ => (0 : EReal)) (Rect.unit (s := S1152x2880) ![0, 0] S1152x256.size inb_S1152x2880_S1152x256_0_0) := by
  unfold kernelRun0_A.sl.v144
  unfold kernelRun0_A.sl.H2_1; rw [View.readCov_fill _ _ _ _ _ (by decide), pay1_eq]

theorem zero_A_256 : kernelRun0_A.sl.v151 (F := Ideal) c arg3 harg3 arg4 harg4 arg5 arg6 x0 x1
    = View.ld (fun _ => (0 : EReal)) (Rect.unit (s := S1152x2880) ![0, 256] S1152x256.size inb_S1152x2880_S1152x256_0_256) := by
  unfold kernelRun0_A.sl.v151
  unfold kernelRun0_A.sl.H2_2; rw [View.readCov_skip _ _ _ _ _ (by sl_kernel_rfl)]
  unfold kernelRun0_A.sl.H2_1; rw [View.readCov_fill _ _ _ _ _ (by decide), pay1_eq]

theorem zero_A_512 : kernelRun0_A.sl.v158 (F := Ideal) c arg3 harg3 arg4 harg4 arg5 arg6 x0 x1
    = View.ld (fun _ => (0 : EReal)) (Rect.unit (s := S1152x2880) ![0, 512] S1152x256.size inb_S1152x2880_S1152x256_0_512) := by
  unfold kernelRun0_A.sl.v158
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_768 : kernelRun0_A.sl.v165 (F := Ideal) c arg3 harg3 arg4 harg4 arg5 arg6 x0 x1
    = View.ld (fun _ => (0 : EReal)) (Rect.unit (s := S1152x2880) ![0, 768] S1152x256.size inb_S1152x2880_S1152x256_0_768) := by
  unfold kernelRun0_A.sl.v165
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_1024 : kernelRun0_A.sl.v172 (F := Ideal) c arg3 harg3 arg4 harg4 arg5 arg6 x0 x1
    = View.ld (fun _ => (0 : EReal)) (Rect.unit (s := S1152x2880) ![0, 1024] S1152x256.size inb_S1152x2880_S1152x256_0_1024) := by
  unfold kernelRun0_A.sl.v172
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_1280 : kernelRun0_A.sl.v179 (F := Ideal) c arg3 harg3 arg4 harg4 arg5 arg6 x0 x1
    = View.ld (fun _ => (0 : EReal)) (Rect.unit (s := S1152x2880) ![0, 1280] S1152x256.size inb_S1152x2880_S1152x256_0_1280) := by
  unfold kernelRun0_A.sl.v179
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_1536 : kernelRun0_A.sl.v186 (F := Ideal) c arg3 harg3 arg4 harg4 arg5 arg6 x0 x1
    = View.ld (fun _ => (0 : EReal)) (Rect.unit (s := S1152x2880) ![0, 1536] S1152x256.size inb_S1152x2880_S1152x256_0_1536) := by
  unfold kernelRun0_A.sl.v186
  unfold kernelRun0_A.sl.H2_7; rw [View.readCov_skip _ _ _ _ _ (by sl_kernel_rfl)]
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_1792 : kernelRun0_A.sl.v193 (F := Ideal) c arg3 harg3 arg4 harg4 arg5 arg6 x0 x1
    = View.ld (fun _ => (0 : EReal)) (Rect.unit (s := S1152x2880) ![0, 1792] S1152x256.size inb_S1152x2880_S1152x256_0_1792) := by
  unfold kernelRun0_A.sl.v193
  unfold kernelRun0_A.sl.H2_8; rw [View.readCov_skip _ _ _ _ _ (by sl_kernel_rfl)]
  unfold kernelRun0_A.sl.H2_7; rw [View.readCov_skip _ _ _ _ _ (by sl_kernel_rfl)]
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_2048 : kernelRun0_A.sl.v200 (F := Ideal) c arg3 harg3 arg4 harg4 arg5 arg6 x0 x1
    = View.ld (fun _ => (0 : EReal)) (Rect.unit (s := S1152x2880) ![0, 2048] S1152x256.size inb_S1152x2880_S1152x256_0_2048) := by
  unfold kernelRun0_A.sl.v200
  unfold kernelRun0_A.sl.H2_9; rw [View.readCov_skip _ _ _ _ _ (by sl_kernel_rfl)]
  unfold kernelRun0_A.sl.H2_8; rw [View.readCov_skip _ _ _ _ _ (by sl_kernel_rfl)]
  unfold kernelRun0_A.sl.H2_7; rw [View.readCov_skip _ _ _ _ _ (by sl_kernel_rfl)]
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_2304 : kernelRun0_A.sl.v207 (F := Ideal) c arg3 harg3 arg4 harg4 arg5 arg6 x0 x1
    = View.ld (fun _ => (0 : EReal)) (Rect.unit (s := S1152x2880) ![0, 2304] S1152x256.size inb_S1152x2880_S1152x256_0_2304) := by
  unfold kernelRun0_A.sl.v207
  unfold kernelRun0_A.sl.H2_10; rw [View.readCov_skip _ _ _ _ _ (by sl_kernel_rfl)]
  unfold kernelRun0_A.sl.H2_9; rw [View.readCov_skip _ _ _ _ _ (by sl_kernel_rfl)]
  unfold kernelRun0_A.sl.H2_8; rw [View.readCov_skip _ _ _ _ _ (by sl_kernel_rfl)]
  unfold kernelRun0_A.sl.H2_7; rw [View.readCov_skip _ _ _ _ _ (by sl_kernel_rfl)]
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_2560 : kernelRun0_A.sl.v214 (F := Ideal) c arg3 harg3 arg4 harg4 arg5 arg6 x0 x1
    = View.ld (fun _ => (0 : EReal)) (Rect.unit (s := S1152x2880) ![0, 2560] S1152x256.size inb_S1152x2880_S1152x256_0_2560) := by
  unfold kernelRun0_A.sl.v214
  unfold kernelRun0_A.sl.H2_11; rw [View.readCov_skip _ _ _ _ _ (by sl_kernel_rfl)]
  unfold kernelRun0_A.sl.H2_10; rw [View.readCov_skip _ _ _ _ _ (by sl_kernel_rfl)]
  unfold kernelRun0_A.sl.H2_9; rw [View.readCov_skip _ _ _ _ _ (by sl_kernel_rfl)]
  unfold kernelRun0_A.sl.H2_8; rw [View.readCov_skip _ _ _ _ _ (by sl_kernel_rfl)]
  unfold kernelRun0_A.sl.H2_7; rw [View.readCov_skip _ _ _ _ _ (by sl_kernel_rfl)]
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem zero_A_2816 : kernelRun0_A.sl.v221 (F := Ideal) c arg3 harg3 arg4 harg4 arg5 arg6 x0 x1
    = View.ld (fun _ => (0 : EReal)) (Rect.unit (s := S1152x2880) ![0, 2816] S1152x64.size inb_S1152x2880_S1152x64_0_2816) := by
  unfold kernelRun0_A.sl.v221
  unfold kernelRun0_A.sl.H2_12; rw [View.readCov_skip _ _ _ _ _ (by sl_kernel_rfl)]
  unfold kernelRun0_A.sl.H2_11; rw [View.readCov_skip _ _ _ _ _ (by sl_kernel_rfl)]
  unfold kernelRun0_A.sl.H2_10; rw [View.readCov_skip _ _ _ _ _ (by sl_kernel_rfl)]
  unfold kernelRun0_A.sl.H2_9; rw [View.readCov_skip _ _ _ _ _ (by sl_kernel_rfl)]
  unfold kernelRun0_A.sl.H2_8; rw [View.readCov_skip _ _ _ _ _ (by sl_kernel_rfl)]
  unfold kernelRun0_A.sl.H2_7; rw [View.readCov_skip _ _ _ _ _ (by sl_kernel_rfl)]
  unfold kernelRun0_A.sl.H2_6; rw [View.readCov_skip _ _ _ _ _ (by sl_kernel_rfl)]
  unfold kernelRun0_A.sl.H2_5; rw [View.readCov_skip _ _ _ _ _ (by sl_kernel_rfl)]
  unfold kernelRun0_A.sl.H2_4; rw [View.readCov_skip _ _ _ _ _ (by sl_kernel_rfl)]
  unfold kernelRun0_A.sl.H2_3; rw [View.readCov_skip _ _ _ _ _ (by sl_kernel_rfl)]
  unfold kernelRun0_A.sl.H2_2; rw [View.readCov_skip _ _ _ _ _ (by sl_kernel_rfl)]
  unfold kernelRun0_A.sl.H2_1; rw [View.readCov_fill _ _ _ _ _ (by decide), pay1_eq]

theorem canon_A :
    View.canon (kernelRun0_A (F := Ideal) c i arg3 harg3 arg4 harg4 arg5 harg5 arg6 harg6 hc0 x0 x1 xt0 hc1).1
      = fun y => (0 : EReal) + prod x0 x1 y := by
  have key : ∃ L', (kernelRun0_A (F := Ideal) c i arg3 harg3 arg4 harg4 arg5 harg5 arg6 harg6 hc0 x0 x1 xt0 hc1).1 = L' ++ kernelRun0_A.sl.H2_1
      ∧ View.PiecesOf (fun y => (0 : EReal) + prod x0 x1 y) L' ∧ ∀ y, ∃ p ∈ L', y ∈ p.1.set := by
    unfold kernelRun0_A
    dsimp only
    unfold kernelRun0_A.sl.H2_12 kernelRun0_A.sl.H2_11 kernelRun0_A.sl.H2_10 kernelRun0_A.sl.H2_9 kernelRun0_A.sl.H2_8 kernelRun0_A.sl.H2_7 kernelRun0_A.sl.H2_6 kernelRun0_A.sl.H2_5 kernelRun0_A.sl.H2_4 kernelRun0_A.sl.H2_3 kernelRun0_A.sl.H2_2
    refine ⟨[_, _, _, _, _, _, _, _, _, _, _, _], rfl, ?_, fun y => View.cover_of_tiledBy _ ![1152, 64] (by sl_kernel_rfl) y⟩
    unfold kernelRun0_A.sl.r_9 kernelRun0_A.sl.r_8 kernelRun0_A.sl.r_7 kernelRun0_A.sl.r_6
    rw [raw_A]
    simp only [View.readAt_eq_ld, harg4.read_unread, zero_A_0, zero_A_256, zero_A_512, zero_A_768, zero_A_1024, zero_A_1280, zero_A_1536, zero_A_1792, zero_A_2048, zero_A_2304, zero_A_2560, zero_A_2816]
    exact ⟨fun x => tail_piece x0 x1 _ _ _ x, fun x => strip_piece (off := 2560) x0 x1 _ _ _ x, fun x => strip_piece (off := 2304) x0 x1 _ _ _ x, fun x => strip_piece (off := 2048) x0 x1 _ _ _ x, fun x => strip_piece (off := 1792) x0 x1 _ _ _ x, fun x => strip_piece (off := 1536) x0 x1 _ _ _ x, fun x => strip_piece (off := 1280) x0 x1 _ _ _ x, fun x => strip_piece (off := 1024) x0 x1 _ _ _ x, fun x => strip_piece (off := 768) x0 x1 _ _ _ x, fun x => strip_piece (off := 512) x0 x1 _ _ _ x, fun x => strip_piece (off := 256) x0 x1 _ _ _ x, fun x => strip_piece (off := 0) x0 x1 _ _ _ x, trivial⟩
  obtain ⟨L', hL, hp, hc⟩ := key
  rw [hL]
  exact funext fun y => View.canon_append_of_piecesOf _ _ _ hp y (hc y)

theorem cover_A (y : S1152x2880.Idx) :
    ∃ p ∈ (kernelRun0_A (F := Ideal) c i arg3 harg3 arg4 harg4 arg5 harg5 arg6 harg6 hc0 x0 x1 xt0 hc1).1, y ∈ p.1.set :=
  View.cover_of_tiledBy (kernelRun0_A (F := Ideal) c i arg3 harg3 arg4 harg4 arg5 harg5 arg6 harg6 hc0 x0 x1 xt0 hc1).1 ![1152, 64] (by sl_kernel_rfl) y

end A

section B

variable (c : Dev nD) (i : grid0.Coords) (arg3 : Memref sig .tc .vmem S256x1152 .i32) (harg3 : arg3.IsWhole) (arg4 : Memref sig .tc .vmem S256x2944 .i32) (harg4 : arg4.IsWhole) (arg5 : Memref sig .tc .vmem S1152x2880 .f32) (harg5 : arg5.IsWhole) (arg6 : Memref sig .tc .vmem S576x2x512 .bf16) (harg6 : arg6.IsWhole) (hc0 : cond0_0 i)
    (x0 : Vec Ideal S256x1152 .i32) (x1 : Vec Ideal S256x2944 .i32) (xt0 : TbBuf0 (F := Ideal) c tbM0_0) (hc1 : ¬live c i xt0)

theorem cover_B (y : S1152x2880.Idx) :
    ∃ p ∈ (kernelRun0_B (F := Ideal) c i arg3 harg3 arg4 harg4 arg5 harg5 arg6 harg6 hc0 x0 x1 xt0 hc1).1, y ∈ p.1.set := by
  unfold kernelRun0_B
  dsimp only
  exact View.cover_of_tiledBy _ ![1152, 64] (by sl_kernel_rfl) y

theorem canon_B :
    View.canon (kernelRun0_B (F := Ideal) c i arg3 harg3 arg4 harg4 arg5 harg5 arg6 harg6 hc0 x0 x1 xt0 hc1).1
      = fun _ => (0 : EReal) := by
  unfold kernelRun0_B
  dsimp only
  sl_unfold_words
  rw [View.canon_cons_unit_lit' _ _ _ (by decide), pay1_eq]

end B

end Cert.KernelIdeal.Own
end
-- ==== Proof.IFrame.lean ====
/- The run of `KernelIdeal` over the extended reals: the output's block after every point is a running sum of the live chunks'
   products, restarted at every twenty-fourth point. -/
module

public import proofs.«01_k».proof.Proof.IOut
public import Idealize.ShloMosaic.Lib.Claim
public import Idealize.ShloMosaic.Lib.Pipeline.TableIdle

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The running sum -/

open Classical in
/-- The output's block after point `n`, from the block before it: restarted at zero at every twenty-fourth point, then
    the point's product added if the point is live. -/
def step (hO : Ok m) (c : Dev nD) (n : ℕ) (prev : Vec Ideal S1152x2880 .f32) : Vec Ideal S1152x2880 .f32 :=
  if hn : n < (cfgM m hO).N then
    let base : Vec Ideal S1152x2880 .f32 := if n % 24 = 0 then fun _ => (0 : EReal) else prev
    if live c (grid0.coords ⟨n, hn⟩) (tbl m 0) then
      fun y => base y + prod (iblk m hO c 0 ⟨n, hn⟩) (iblk m hO c 1 ⟨n, hn⟩) y
    else base
  else prev

def acc (hO : Ok m) (c : Dev nD) : ℕ → Vec Ideal S1152x2880 .f32
  | 0 => step m hO c 0 fun _ => (0 : EReal)
  | n + 1 => step m hO c (n + 1) (acc hO c n)

theorem acc_eq (hO : Ok m) (c : Dev nD) (n : ℕ) (h : n ≠ 0) : acc m hO c n = step m hO c n (acc m hO c (n - 1)) := by
  cases n with
  | zero => exact absurd rfl h
  | succ n => rfl

theorem acc_A (hO : Ok m) (c : Dev nD) (t : Fin (cfgM m hO).N) (h0 : t.val % 24 = 0) (h1 : live c (grid0.coords t) (tbl m 0)) :
    acc m hO c t.val = fun y => (0 : EReal) + prod (iblk m hO c 0 t) (iblk m hO c 1 t) y := by
  have : ∀ p, step m hO c t.val p = fun y => (0 : EReal) + prod (iblk m hO c 0 t) (iblk m hO c 1 t) y := fun p => by
    unfold step
    rw [dif_pos t.isLt]
    dsimp only
    rw [if_pos h1, if_pos h0]
  by_cases h : t.val = 0
  · rw [h, acc, ← h]; exact this _
  · rw [acc_eq m hO c _ h]; exact this _

theorem acc_B (hO : Ok m) (c : Dev nD) (t : Fin (cfgM m hO).N) (h0 : t.val % 24 = 0) (h1 : ¬live c (grid0.coords t) (tbl m 0)) :
    acc m hO c t.val = fun _ => (0 : EReal) := by
  have : ∀ p, step m hO c t.val p = fun y => (0 : EReal) := fun p => by
    unfold step
    rw [dif_pos t.isLt]
    dsimp only
    rw [if_neg h1, if_pos h0]
  by_cases h : t.val = 0
  · rw [h, acc, ← h]; exact this _
  · rw [acc_eq m hO c _ h]; exact this _

theorem acc_C (hO : Ok m) (c : Dev nD) (t : Fin (cfgM m hO).N) (h0 : ¬t.val % 24 = 0) (h1 : live c (grid0.coords t) (tbl m 0)) :
    acc m hO c t.val = fun y => acc m hO c (t.val - 1) y + prod (iblk m hO c 0 t) (iblk m hO c 1 t) y := by
  rw [acc_eq m hO c _ (by omega)]
  unfold step
  rw [dif_pos t.isLt]
  dsimp only
  rw [if_pos h1, if_neg h0]

theorem acc_D (hO : Ok m) (c : Dev nD) (t : Fin (cfgM m hO).N) (h0 : ¬t.val % 24 = 0) (h1 : ¬live c (grid0.coords t) (tbl m 0)) :
    acc m hO c t.val = acc m hO c (t.val - 1) := by
  rw [acc_eq m hO c _ (by omega)]
  unfold step
  rw [dif_pos t.isLt]
  dsimp only
  rw [if_neg h1, if_neg h0]

/-! ## Where the output's window is idle -/

theorem idle_iff (hO : Ok m) (c : Dev nD) (t : Fin (cfgM m hO).N) :
    (cfgM m hO).idle 2 ((cfgM m hO).grid.coords t) = true ↔ ¬t.val % 24 = 0 ∧ ¬live c (grid0.coords t) (tbl m 0) := by
  show (!(k0_cond1 (grid0.coords t) == 1#1) && !(k0_cond2 (grid0.coords t) (Pipeline.Prefetch.Contents.atD (tbl m) 0 ![0]) _ _ _ _ _ == 1#1)) = true ↔ _
  rw [Bool.and_eq_true, Bool.not_eq_true', Bool.not_eq_true', beq_eq_false_iff_ne, beq_eq_false_iff_ne]
  exact and_congr (not_congr (hcond0_0 t)) Iff.rfl

theorem fresh_eq (hO : Ok m) (n : ℕ) (hn : n ≤ (cfgM m hO).N) : (cfgM m hO).fresh 2 n = decide (n % 24 = 0) := by
  refine (cfgM m hO).fresh_tab 2 (fun n => decide (n % 24 = 0)) rfl (fun t => ?_) n hn
  have hfl := flush0_2 (adm m hO) t
  have hid := idle_iff m hO 0 t
  by_cases h23 : t.val % 24 = 23
  · rw [hfl.mpr h23, Bool.true_or, decide_eq_true]; omega
  · rw [Bool.eq_false_iff.mpr (fun h => h23 (hfl.mp h)), Bool.false_or]
    by_cases h0 : t.val % 24 = 0
    · rw [Bool.eq_false_iff.mpr (fun h => (hid.mp h).1 h0), Bool.false_and, decide_eq_false]; omega
    · dsimp only
      rw [decide_eq_false h0, Bool.and_false, decide_eq_false]; omega

/-! ## The pipeline's proof data -/

/-- The proof data of the one pipeline on core `c`: the arrays as the region finds them (`V`); after the body at
    point `t` each input's buffer at its block and the output's at the running sum; the invariant the class's
    (Lib/Pipeline/Frame.lean `ΦA`: the scoped rest and the generator register) and the tables' halves (`ΦT`); nothing owed;
    full shares. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => acc m hO c t.val
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = acc m hO c t.val := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- The output's buffer, at a point that does not restart the sum, holds what the point before left. -/
theorem before0_2 (hO : Ok m) (c : Dev nD) (t : Fin (cfgM m hO).N) (h0 : ¬t.val % 24 = 0) (d) :
    (dats m hO 0 c).before 2 t d = acc m hO c (t.val - 1) := by
  rw [(dats m hO 0 c).before_out_traj 2 rfl (fun _ _ => rfl) (fun t ht hi hf => by
    rw [after0_2, after0_2]
    have := (idle_iff m hO c t).mp hi
    exact acc_D m hO c t this.1 this.2) t.val t rfl d, fresh_eq m hO _ (Nat.le_of_lt t.isLt), decide_eq_false h0, if_neg Bool.false_ne_true, after0_2]

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  have hN : t.val < 120 := lt_of_lt_of_eq t.isLt (show (cfgM m hO).N = 120 from N_0)
  by_cases h0 : t.val % 24 = 0
  · by_cases h1 : live c (grid0.coords t) (tbl m 0)
    · rw [acc_A m hO c t h0 h1]
      iintro ⟨⟨⟨HS0, Hg⟩, HT0⟩, Ho, ⟨%d0, H0⟩, ⟨%d1, H1⟩, ⟨%d2, H2⟩⟩
      iapply ((kernelRun0_A c (grid0.coords t) _ _ _ _ _ _ _ _ ((hcond0_0 t).mpr h0) (iblk m hO c 0 t) (iblk m hO c 1 t) (tbl m 0) h1).2.2 Set.univ _)
      isplitl [H0]; · iexact H0
      isplitl [H1]; · iexact H1
      isplitl [H2]; · iexists _; iexact H2
      isplitl [HS0]; · iexact HS0
      isplitl [HT0]; · iexact HT0
      iintro ⟨H0, H1, ⟨%e2, H2⟩, ⟨%fT0, HS0⟩, HT0⟩
      isplitl [HS0 Hg HT0]
      · isplitl [HS0 Hg]
        · isplitl [HS0]
          · iexists _; unfold owns; iexists _; isplitr
            swap; · iexact HS0
            ipureintro; rfl
          iexact Hg
        iexact HT0
      isplitl [Ho]; · iexact Ho
      isplitl [H0]; · iexact H0
      isplitl [H1]; · iexact H1
      unfold owns; iexists _; isplitr
      swap; · iexact H2
      ipureintro; exact (View.read_writes_eq_canon _ _ _ (cover_A c _ _ _ _ _ _ _ _ _ _ _ _ _ _)).trans (canon_A c _ _ _ _ _ _ _ _ _ _ _ _ _ _)
    · rw [acc_B m hO c t h0 h1]
      iintro ⟨⟨⟨HS0, Hg⟩, HT0⟩, Ho, ⟨%d0, H0⟩, ⟨%d1, H1⟩, ⟨%d2, H2⟩⟩
      iapply ((kernelRun0_B c (grid0.coords t) _ _ _ _ _ _ _ _ ((hcond0_0 t).mpr h0) (iblk m hO c 0 t) (iblk m hO c 1 t) (tbl m 0) h1).2.2 Set.univ _)
      isplitl [H0]; · iexact H0
      isplitl [H1]; · iexact H1
      isplitl [H2]; · iexists _; iexact H2
      isplitl [HS0]; · iexact HS0
      isplitl [HT0]; · iexact HT0
      iintro ⟨H0, H1, ⟨%e2, H2⟩, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      unfold owns; iexists _; isplitr
      swap; · iexact H2
      ipureintro; exact (View.read_writes_eq_canon _ _ _ (cover_B c _ _ _ _ _ _ _ _ _ _ _ _ _ _)).trans (canon_B c _ _ _ _ _ _ _ _ _ _ _ _ _ _)
  · by_cases h1 : live c (grid0.coords t) (tbl m 0)
    · rw [acc_C m hO c t h0 h1]
      simp only [before0_2 m hO c t h0]
      iintro ⟨⟨⟨HS0, Hg⟩, HT0⟩, Ho, ⟨%d0, H0⟩, ⟨%d1, H1⟩, ⟨%d2, H2⟩⟩
      iapply ((kernelRun0_C c (grid0.coords t) _ _ _ _ _ _ _ _ (fun h => h0 ((hcond0_0 t).mp h)) (iblk m hO c 0 t) (iblk m hO c 1 t) (tbl m 0) _ h1).2.2 Set.univ _)
      isplitl [H0]; · iexact H0
      isplitl [H1]; · iexact H1
      isplitl [H2]; · iexact H2
      isplitl [HS0]; · iexact HS0
      isplitl [HT0]; · iexact HT0
      iintro ⟨H0, H1, ⟨%e2, H2⟩, ⟨%fT0, HS0⟩, HT0⟩
      isplitl [HS0 Hg HT0]
      · isplitl [HS0 Hg]
        · isplitl [HS0]
          · iexists _; unfold owns; iexists _; isplitr
            swap; · iexact HS0
            ipureintro; rfl
          iexact Hg
        iexact HT0
      isplitl [Ho]; · iexact Ho
      isplitl [H0]; · iexact H0
      isplitl [H1]; · iexact H1
      unfold owns; iexists _; isplitr
      swap; · iexact H2
      ipureintro; exact (View.read_writes_eq_canon _ _ _ (cover_C c _ _ _ _ _ _ _ _ _ _ _ _ _ _ _)).trans (canon_C c _ _ _ _ _ _ _ _ _ _ _ _ _ _ _)
    · rw [acc_D m hO c t h0 h1]
      simp only [before0_2 m hO c t h0]
      iintro ⟨⟨⟨HS0, Hg⟩, HT0⟩, Ho, ⟨%d0, H0⟩, ⟨%d1, H1⟩, ⟨%d2, H2⟩⟩
      iapply ((kernelRun0_D c (grid0.coords t) _ _ _ _ _ _ _ _ (fun h => h0 ((hcond0_0 t).mp h)) (iblk m hO c 0 t) (iblk m hO c 1 t) (tbl m 0) _ h1) Set.univ _)
      isplitl [H0]; · iexact H0
      isplitl [H1]; · iexact H1
      isplitl [H2]; · iexact H2
      isplitl [HS0]; · iexact HS0
      isplitl [HT0]; · iexact HT0
      iintro ⟨H0, H1, H2, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      iexact H2

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- What the body leaves in the output's buffer is what the obligation asks of it: at an idle point that writes nothing back, the
    contents it was handed, which are the running sum there too. -/
theorem leaves0_2 (hO : Ok m) (c : Dev nD) (t : Fin (cfgM m hO).N) :
    owns (c : Thread nD τ) (ms0_2 m hO t) fullShare ((dats m hO 0 c).after 2 t) ⊢
      (match (cfgM m hO).idle 2 ((cfgM m hO).grid.coords t) with
        | true => match ((cfgM m hO).win 2).flush t with
          | false => iprop(∃ d, owns (c : Thread nD τ) (ms0_2 m hO t) fullShare ((dats m hO 0 c).before 2 t d))
          | true => owns (c : Thread nD τ) (ms0_2 m hO t) fullShare ((dats m hO 0 c).after 2 t)
        | false => owns (c : Thread nD τ) (ms0_2 m hO t) fullShare ((dats m hO 0 c).after 2 t) : sProp 𝕄) := by
  cases hi : (cfgM m hO).idle 2 ((cfgM m hO).grid.coords t)
  · exact .rfl
  · cases hf : ((cfgM m hO).win 2).flush t
    · have h := (idle_iff m hO c t).mp hi
      dsimp only
      have e : (dats m hO 0 c).after 2 t = (dats m hO 0 c).before 2 t ((dats m hO 0 c).after 2 t) :=
        (after0_2 m hO c t).trans ((acc_D m hO c t h.1 h.2).trans (before0_2 m hO c t h.1 _).symm)
      refine BIBase.Entails.trans (.of_eq (congrArg (owns (c : Thread nD τ) (ms0_2 m hO t) fullShare) e)) ?_
      iintro H
      iexists _
      iexact H
    · exact .rfl

/-- The library's body obligation, at every point: the body's triple restated. -/
theorem body_obligation (hO : Ok m) (c : Dev nD) : BodyObligation (dats m hO 0 c) (defs₀ (F := Ideal)) Variants.none () Set.univ := fun t => by
  rw [bigSep_W0, bigSep_W0, defs₀_row m hO]
  refine triple_restated (sound_body m hO c t) rfl .rfl fun _ => ?_
  unfold bodyPost
  exact sep_mono .rfl (sep_mono .rfl (sep_mono .rfl (sep_mono .rfl (leaves0_2 m hO c t))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := Ideal))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := Ideal))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- The frame: the run ends, the argument arrays are unchanged and every semaphore counter is zero, for every contents of the
    table of lengths under `Ok m`, which says that the blocks the table names are inside their arrays. -/
theorem frame (hO : Ok m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.Own

end
-- ==== Proof.ITable.lean ====
/- The table of lengths read by `KernelIdeal`: the words its index maps compute, and that every block they name is inside its array. -/
module

public import proofs.«01_k».proof.Proof.Gen.KernelIdeal
public import proofs.«01_k».proof.Proof.Words

@[expose] public section

set_option maxRecDepth 16384

noncomputable section

namespace Cert.KernelIdeal.Own

open Cert.KernelIdeal.Gen
open Idealize.ShloMosaic Idealize.ShloMosaic.TcCoe
open Cert.Words

variable {F : FTy → Type} [FloatOps F]

/-- Word `k` of the table. -/
def word (pf : pre0.Contents (Elt F)) (k : Fin 6) : BitVec 32 :=
  (pf 0 : S6.Idx → BitVec 32) (fun a => ⟨k.val, match a with | ⟨0, _⟩ => k.isLt⟩)

/-- Every length is at most 2048, read as a natural number. -/
def InRange (pf : pre0.Contents (Elt F)) : Prop := ∀ k, (word pf k).toNat ≤ 2048

/-- The chunk counts of the six sequences. -/
def cnt (pf : pre0.Contents (Elt F)) (k : Fin 6) : ℕ := chunks (word pf k).toNat

theorem cnt_le (pf : pre0.Contents (Elt F)) (h : InRange pf) (k : Fin 6) : cnt pf k ≤ 4 := chunks_le (h k)

theorem cdiv_word (pf : pre0.Contents (Elt F)) (h : InRange pf) (k : Fin 6) : cdiv (word pf k) = BitVec.ofNat 32 (cnt pf k) := cdiv_eq _ (h k)

theorem at_word (pf : pre0.Contents (Elt F)) (k : ℕ) (hk : k < 6) (hi : ∀ a, (![k] : Fin 1 → Nat) a + S1.size a ≤ S6.size a) (h1 : S1.numel = 1) :
    pf.at 0 (Rect.unit (s := S6) ![k] S1.size hi) h1 = word pf ⟨k, hk⟩ := by
  unfold word
  show (pf 0 : S6.Idx → BitVec 32) _ = _
  congr 1
  funext a
  apply Fin.ext
  match a with
  | ⟨0, _⟩ => show k + 1 * (Shape.Idx.first _ _).val = k; simp [Shape.Idx.first]

theorem transform_0_words (pf : pre0.Contents (Elt F)) (i : grid0.Coords) :
    cc0_transform_0 inb_S6_S1_0 numel1_S1 inb_S6_S1_1 inb_S6_S1_2 inb_S6_S1_3 inb_S6_S1_4 inb_S6_S1_5 pf i
      = ![(chunkW (cdiv (pf.at 0 (Rect.unit (s := S6) ![0] S1.size inb_S6_S1_0) numel1_S1)) (cdiv (pf.at 0 (Rect.unit (s := S6) ![1] S1.size inb_S6_S1_1) numel1_S1))
            (cdiv (pf.at 0 (Rect.unit (s := S6) ![2] S1.size inb_S6_S1_2) numel1_S1)) (cdiv (pf.at 0 (Rect.unit (s := S6) ![3] S1.size inb_S6_S1_3) numel1_S1))
            (cdiv (pf.at 0 (Rect.unit (s := S6) ![4] S1.size inb_S6_S1_4) numel1_S1)) (cdiv (pf.at 0 (Rect.unit (s := S6) ![5] S1.size inb_S6_S1_5) numel1_S1))
            (BitVec.ofNat 32 (i 1).val)).toNat, (BitVec.ofNat 32 (i 0).val).toNat] := rfl

theorem transform_1_words (pf : pre0.Contents (Elt F)) (i : grid0.Coords) :
    cc0_transform_1 inb_S6_S1_0 numel1_S1 inb_S6_S1_1 inb_S6_S1_2 inb_S6_S1_3 inb_S6_S1_4 inb_S6_S1_5 pf i
      = ![(chunkW (cdiv (pf.at 0 (Rect.unit (s := S6) ![0] S1.size inb_S6_S1_0) numel1_S1)) (cdiv (pf.at 0 (Rect.unit (s := S6) ![1] S1.size inb_S6_S1_1) numel1_S1))
            (cdiv (pf.at 0 (Rect.unit (s := S6) ![2] S1.size inb_S6_S1_2) numel1_S1)) (cdiv (pf.at 0 (Rect.unit (s := S6) ![3] S1.size inb_S6_S1_3) numel1_S1))
            (cdiv (pf.at 0 (Rect.unit (s := S6) ![4] S1.size inb_S6_S1_4) numel1_S1)) (cdiv (pf.at 0 (Rect.unit (s := S6) ![5] S1.size inb_S6_S1_5) numel1_S1))
            (BitVec.ofNat 32 (i 1).val)).toNat, (0#32).toNat] := rfl

theorem i1_lt (i : grid0.Coords) : (i 1).val < 24 := (i 1).isLt
theorem i0_lt (i : grid0.Coords) : (i 0).val < 5 := (i 0).isLt

theorem chunkW_words (pf : pre0.Contents (Elt F)) (h : InRange pf) (i : grid0.Coords) :
    (chunkW (cdiv (word pf 0)) (cdiv (word pf 1)) (cdiv (word pf 2)) (cdiv (word pf 3)) (cdiv (word pf 4)) (cdiv (word pf 5))
      (BitVec.ofNat 32 (i 1).val)).toNat = chunk (cnt pf) (i 1).val := by
  have hl := chunk_lt (cnt pf) (cnt_le pf h) _ (i1_lt i)
  simp only [cdiv_word pf h]
  rw [chunkW_ofNat (cnt pf) (cnt_le pf h) _ (i1_lt i), WordArith.toNat_ofNat_of_lt _ (by omega)]

/-- The first window's block at a point: the chunk the step reads, and the column block of the first axis. -/
theorem transform_0_eq (pf : pre0.Contents (Elt F)) (h : InRange pf) (i : grid0.Coords) :
    cc0_transform_0 inb_S6_S1_0 numel1_S1 inb_S6_S1_1 inb_S6_S1_2 inb_S6_S1_3 inb_S6_S1_4 inb_S6_S1_5 pf i
      = ![chunk (cnt pf) (i 1).val, (i 0).val] := by
  rw [transform_0_words, at_word pf 0 (by decide), at_word pf 1 (by decide), at_word pf 2 (by decide), at_word pf 3 (by decide),
    at_word pf 4 (by decide), at_word pf 5 (by decide)]
  have h0 := i0_lt i
  exact congrArg₂ (fun a b => ![a, b]) (chunkW_words pf h i) (WordArith.toNat_ofNat_of_lt _ (by omega))

/-- The second window's block at a point: the chunk the step reads, all columns. -/
theorem transform_1_eq (pf : pre0.Contents (Elt F)) (h : InRange pf) (i : grid0.Coords) :
    cc0_transform_1 inb_S6_S1_0 numel1_S1 inb_S6_S1_1 inb_S6_S1_2 inb_S6_S1_3 inb_S6_S1_4 inb_S6_S1_5 pf i
      = ![chunk (cnt pf) (i 1).val, 0] := by
  rw [transform_1_words, at_word pf 0 (by decide), at_word pf 1 (by decide), at_word pf 2 (by decide), at_word pf 3 (by decide),
    at_word pf 4 (by decide), at_word pf 5 (by decide)]
  exact congrArg₂ (fun a b => ![a, b]) (chunkW_words pf h i) rfl

/-- Lengths in range: every block the index maps name is inside its array. -/
theorem ok_of_range (pf : pre0.Contents (Elt F)) (h : InRange pf) : ok0 pf := by
  refine ⟨fun i => ⟨fun a => ?_, .inl rfl⟩, fun i => ⟨fun a => ?_, .inl rfl⟩⟩
  · rw [transform_0_eq pf h i]
    have hl := chunk_lt (cnt pf) (cnt_le pf h) _ (i1_lt i)
    have h0 := i0_lt i
    match a with
    | ⟨0, _⟩ => show (chunk (cnt pf) (i 1).val + 1) * 256 ≤ 6144; omega
    | ⟨1, _⟩ => show ((i 0).val + 1) * 1152 ≤ 5760; omega
  · rw [transform_1_eq pf h i]
    have hl := chunk_lt (cnt pf) (cnt_le pf h) _ (i1_lt i)
    match a with
    | ⟨0, _⟩ => show (chunk (cnt pf) (i 1).val + 1) * 256 ≤ 6144; omega
    | ⟨1, _⟩ => show (0 + 1) * 2944 ≤ 2944; omega

theorem cond2_words (i : grid0.Coords) (w0 w1 w2 w3 w4 w5 : BitVec 32) :
    k0_cond2 i w0 w1 w2 w3 w4 w5 = Scalar.cmpi .ne (Scalar.extui (Scalar.cmpi .slt (BitVec.ofNat 32 (i 1).val)
      (totalW (cdiv w0) (cdiv w1) (cdiv w2) (cdiv w3) (cdiv w4) (cdiv w5)))) 0#32 := rfl

/-- The body's second condition: the step is below the number of live chunks. -/
theorem cond2_iff (pf : pre0.Contents (Elt F)) (h : InRange pf) (i : grid0.Coords) :
    k0_cond2 i (word pf 0) (word pf 1) (word pf 2) (word pf 3) (word pf 4) (word pf 5) = 1#1 ↔ (i 1).val < total (cnt pf) := by
  rw [cond2_words]
  simp only [cdiv_word pf h]
  rw [totalW_ofNat (cnt pf)]
  have h1 := i1_lt i
  have ht : total (cnt pf) < 2 ^ 31 := by
    have h0 := cnt_le pf h 0; have h1 := cnt_le pf h 1; have h2 := cnt_le pf h 2; have h3 := cnt_le pf h 3; have h4 := cnt_le pf h 4
    have h5 := cnt_le pf h 5
    unfold total; omega
  have e : Scalar.cmpi .slt (BitVec.ofNat 32 (i 1).val) (BitVec.ofNat 32 (total (cnt pf))) = BitVec.ofBool (decide ((i 1).val < total (cnt pf))) :=
    congrArg BitVec.ofBool (slt_ofNat _ _ (by omega) ht)
  rw [e]
  by_cases hd : (i 1).val < total (cnt pf)
  · rw [decide_eq_true hd]; exact ⟨fun _ => hd, fun _ => by decide⟩
  · rw [decide_eq_false hd]; exact ⟨fun h => absurd h (by decide), fun h => absurd h hd⟩

end Cert.KernelIdeal.Own

end
-- ==== Proof.ISum.lean ====
/- The array the kernel leaves: every element the sum, over the live chunks, of the products of the chunk's rows. -/
module

public import proofs.«01_k».proof.Proof.IFrame
public import proofs.«01_k».proof.Proof.ITable

@[expose] public section

set_option maxRecDepth 16384

noncomputable section

namespace Cert.KernelIdeal.Own

open Cert.KernelIdeal.Gen
open Idealize.ShloMosaic Idealize.ShloMosaic.TcCoe
open Idealize.SL Idealize.SL.Sem
open Idealize.ShloMosaic.Pipeline (Dat Cfg Window)
open Cert.Words

/-- The product of the two arrays' half `p` of word row `r`, at columns `o` and `b`. -/
def term (A : IVec S6144x5760 32) (B : IVec S6144x2944 32) (o : Fin 5760) (b : Fin 2880) (r p : ℕ) : EReal :=
  if h : r < 6144 then half (A (ix2 ⟨r, h⟩ o)) p * half (B (ix2 ⟨r, h⟩ ⟨b, by omega⟩)) p else 0

/-- The sum over one chunk: 512 rows, two to a word row. -/
def chunkSum (A : IVec S6144x5760 32) (B : IVec S6144x2944 32) (o : Fin 5760) (b : Fin 2880) (ch : ℕ) : EReal :=
  ∑ q ∈ Finset.range 512, term A B o b (256 * ch + q / 2) (q % 2)

variable (m : (ℓ : Loc nD τ sig) → Buf (Elt Ideal) ℓ) (ρ : Dev nD → PrngReg)

abbrev A0 (c : Dev nD) : IVec S6144x5760 32 := m ((c : Thread nD τ).loc main_arg0)
abbrev B0 (c : Dev nD) : IVec S6144x2944 32 := m ((c : Thread nD τ).loc main_arg1)

theorem coord0 (t : Fin grid0.N) : (grid0.coords t 0).val = t.val / 24 := by
  have ht : t.val < 120 := Nat.lt_of_lt_of_eq t.isLt N_0
  have e0 : (grid0.coords t 0).val = t.val / 24 % 5 := Pipeline.Grid.coords_val t 0 (by decide) rfl
  omega

theorem coord1 (t : Fin grid0.N) : (grid0.coords t 1).val = t.val % 24 := by
  have e1 : (grid0.coords t 1).val = t.val / 1 % 24 := Pipeline.Grid.coords_val t 1 (by decide) rfl
  omega

theorem chunk_lt' (h : InRange (tbl m)) (t : Fin grid0.N) : chunk (cnt (tbl m)) (t.val % 24) < 24 :=
  chunk_lt _ (cnt_le _ h) _ (Nat.mod_lt _ (by decide))

theorem iblk0_apply (hO : Ok m) (h : InRange (tbl m)) (c : Dev nD) (t : Fin grid0.N) (a : Fin 256) (b : Fin 1152) :
    (iblk m hO c 0 t : Vec Ideal S256x1152 .i32) (ix2 a b)
      = A0 m c (ix2 ⟨256 * chunk (cnt (tbl m)) (t.val % 24) + a, by have := chunk_lt' m h t; omega⟩
          ⟨1152 * (t.val / 24) + b, by have : t.val < 120 := Nat.lt_of_lt_of_eq t.isLt N_0; omega⟩) := by
  unfold iblk
  refine (show _ = A0 m c ((((cfgM m hO).win 0).blk t).view.emb (ix2 a b)) from rfl).trans (congrArg (A0 m c) ?_)
  have hT : ((cfgM m hO).win 0).index t = ![chunk (cnt (tbl m)) (grid0.coords t 1).val, (grid0.coords t 0).val] :=
    transform_0_eq (tbl m) h (grid0.coords t)
  have e0 : ((cfgM m hO).win 0).index t (0 : Fin 2) = chunk (cnt (tbl m)) (t.val % 24) :=
    (congrFun hT (0 : Fin 2)).trans (congrArg (chunk (cnt (tbl m))) (coord1 t))
  have e1 : ((cfgM m hO).win 0).index t (1 : Fin 2) = t.val / 24 := (congrFun hT (1 : Fin 2)).trans (coord0 t)
  funext x
  apply Fin.ext
  match x with
  | ⟨0, _⟩ =>
    refine (Pipeline.Window.rect_emb_val ((cfgM m hO).win 0) t (ix2 a b) (0 : Fin 2)).trans ?_
    refine (congrArg (fun n : ℕ => n * 256 + a.val) e0).trans ?_
    show chunk (cnt (tbl m)) (t.val % 24) * 256 + a.val = 256 * chunk (cnt (tbl m)) (t.val % 24) + a.val
    omega
  | ⟨1, _⟩ =>
    refine (Pipeline.Window.rect_emb_val ((cfgM m hO).win 0) t (ix2 a b) (1 : Fin 2)).trans ?_
    refine (congrArg (fun n : ℕ => n * 1152 + b.val) e1).trans ?_
    show t.val / 24 * 1152 + b.val = 1152 * (t.val / 24) + b.val
    omega

theorem iblk1_apply (hO : Ok m) (h : InRange (tbl m)) (c : Dev nD) (t : Fin grid0.N) (a : Fin 256) (b : Fin 2944) :
    (iblk m hO c 1 t : Vec Ideal S256x2944 .i32) (ix2 a b)
      = B0 m c (ix2 ⟨256 * chunk (cnt (tbl m)) (t.val % 24) + a, by have := chunk_lt' m h t; omega⟩ b) := by
  unfold iblk
  refine (show _ = B0 m c ((((cfgM m hO).win 1).blk t).view.emb (ix2 a b)) from rfl).trans (congrArg (B0 m c) ?_)
  have hT : ((cfgM m hO).win 1).index t = ![chunk (cnt (tbl m)) (grid0.coords t 1).val, 0] :=
    transform_1_eq (tbl m) h (grid0.coords t)
  have e0 : ((cfgM m hO).win 1).index t (0 : Fin 2) = chunk (cnt (tbl m)) (t.val % 24) :=
    (congrFun hT (0 : Fin 2)).trans (congrArg (chunk (cnt (tbl m))) (coord1 t))
  have e1 : ((cfgM m hO).win 1).index t (1 : Fin 2) = 0 := congrFun hT (1 : Fin 2)
  funext x
  apply Fin.ext
  match x with
  | ⟨0, _⟩ =>
    refine (Pipeline.Window.rect_emb_val ((cfgM m hO).win 1) t (ix2 a b) (0 : Fin 2)).trans ?_
    refine (congrArg (fun n : ℕ => n * 256 + a.val) e0).trans ?_
    show chunk (cnt (tbl m)) (t.val % 24) * 256 + a.val = 256 * chunk (cnt (tbl m)) (t.val % 24) + a.val
    omega
  | ⟨1, _⟩ =>
    refine (Pipeline.Window.rect_emb_val ((cfgM m hO).win 1) t (ix2 a b) (1 : Fin 2)).trans ?_
    refine (congrArg (fun n : ℕ => n * 2944 + b.val) e1).trans ?_
    show 0 * 2944 + b.val = b.val
    omega

/-- The product of two blocks that lie in the arrays at chunk `ch` is the sum over that chunk. -/
theorem prod_eq (A : IVec S6144x5760 32) (B : IVec S6144x2944 32) (x0 : Vec Ideal S256x1152 .i32) (x1 : Vec Ideal S256x2944 .i32)
    (ch : ℕ) (hc : ch < 24) (a : Fin 1152) (b : Fin 2880) (o : Fin 5760)
    (h0 : ∀ r : Fin 256, x0 (ix2 r a) = A (ix2 ⟨256 * ch + r, by omega⟩ o))
    (h1 : ∀ r : Fin 256, x1 (ix2 r ⟨b, by omega⟩) = B (ix2 ⟨256 * ch + r, by omega⟩ ⟨b, by omega⟩)) :
    prod x0 x1 (ix2 a b) = chunkSum A B o b ch := by
  unfold prod chunkSum
  rw [Finset.sum_range]
  refine Finset.sum_congr rfl fun k _ => ?_
  unfold term
  rw [dif_pos (by omega)]
  exact congrArg₂ (fun u v => half u (k % 2) * half v (k % 2)) (h0 _) (h1 _)

/-- A point's product is the sum over the chunk it reads. -/
theorem prod_iblk (hO : Ok m) (h : InRange (tbl m)) (c : Dev nD) (t : Fin grid0.N) (a : Fin 1152) (b : Fin 2880) :
    prod (iblk m hO c 0 t) (iblk m hO c 1 t) (ix2 a b)
      = chunkSum (A0 m c) (B0 m c) ⟨1152 * (t.val / 24) + a, by have : t.val < 120 := Nat.lt_of_lt_of_eq t.isLt N_0; omega⟩ b
          (chunk (cnt (tbl m)) (t.val % 24)) :=
  prod_eq (A0 m c) (B0 m c) _ _ _ (chunk_lt' m h t) a b _ (fun r => iblk0_apply m hO h c t r a) (fun r => iblk1_apply m hO h c t r ⟨b, by omega⟩)

/-- A word the body reads from the table is the table's word. -/
theorem read_word (c : Dev nD) (k : ℕ) (j : Fin 6) (hj : j.val = k) (hi : ∀ a, (![k] : Fin 1 → Nat) a + S1.size a ≤ S6.size a) :
    tbM0_0.view.readAt (Elt Ideal) (Rect.unit (s := S6) ![k] S1.size hi).toLoadRect (tbl m 0) (Shape.Idx.first (numel1_S1.symm ▸ Nat.one_pos))
      = word (tbl m) j := by
  subst hj
  unfold word
  show (tbl m 0 : S6.Idx → BitVec 32) _ = _
  congr 1
  funext a
  apply Fin.ext
  match a with
  | ⟨0, _⟩ => show j.val + 1 * (Shape.Idx.first _ _).val = j.val; simp [Shape.Idx.first]

/-- A point is live exactly where its second coordinate is below the number of live chunks. -/
theorem live_iff (h : InRange (tbl m)) (c : Dev nD) (t : Fin grid0.N) :
    live c (grid0.coords t) (tbl m 0) ↔ t.val % 24 < total (cnt (tbl m)) := by
  have e := cond2_iff (tbl m) h (grid0.coords t)
  rw [coord1, ← read_word m c 0 0 rfl inb_S6_S1_0, ← read_word m c 1 1 rfl inb_S6_S1_1, ← read_word m c 2 2 rfl inb_S6_S1_2,
    ← read_word m c 3 3 rfl inb_S6_S1_3, ← read_word m c 4 4 rfl inb_S6_S1_4, ← read_word m c 5 5 rfl inb_S6_S1_5] at e
  exact e

/-- The running sum after step `r` of the row block `i`. -/
theorem acc_sum (hO : Ok m) (h : InRange (tbl m)) (c : Dev nD) (i : Fin 5) (a : Fin 1152) (b : Fin 2880) : ∀ r : ℕ, r < 24 →
    acc m hO c (24 * i + r) (ix2 a b) = ∑ k ∈ Finset.range (min (r + 1) (total (cnt (tbl m)))),
      chunkSum (A0 m c) (B0 m c) ⟨1152 * i + a, by omega⟩ b (chunk (cnt (tbl m)) k) := by
  intro r hr
  have hN : (cfgM m hO).N = 120 := N_0
  obtain ⟨t, ht⟩ : ∃ t : Fin (cfgM m hO).N, t.val = 24 * i + r := ⟨⟨24 * i + r, by rw [hN]; omega⟩, rfl⟩
  have hl : live c (grid0.coords t) (tbl m 0) ↔ r < total (cnt (tbl m)) := by
    rw [live_iff m h c t, ht, Nat.mul_add_mod, Nat.mod_eq_of_lt hr]
  have hp : prod (iblk m hO c 0 t) (iblk m hO c 1 t) (ix2 a b)
      = chunkSum (A0 m c) (B0 m c) ⟨1152 * i + a, by omega⟩ b (chunk (cnt (tbl m)) r) := by
    refine (prod_iblk m hO h c t a b).trans ?_
    have e1 : t.val % 24 = r := by omega
    have e2 : t.val / 24 = i.val := by omega
    simp only [e1, e2]
  rw [← ht]
  induction r generalizing t with
  | zero =>
    by_cases h1 : 0 < total (cnt (tbl m))
    · rw [Nat.min_eq_left h1, Finset.sum_range_one]
      exact (congrFun (acc_A m hO c t (by omega) (hl.mpr h1)) (ix2 a b)).trans ((zero_add _).trans hp)
    · refine (congrFun (acc_B m hO c t (by omega) (fun x => h1 (hl.mp x))) (ix2 a b)).trans ?_
      rw [show min (0 + 1) (total (cnt (tbl m))) = 0 by omega, Finset.sum_range_zero]
  | succ r ih =>
    obtain ⟨t', ht'⟩ : ∃ t' : Fin (cfgM m hO).N, t'.val = 24 * i + r := ⟨⟨24 * i + r, by rw [hN]; omega⟩, rfl⟩
    have hl' : live c (grid0.coords t') (tbl m 0) ↔ r < total (cnt (tbl m)) := by
      rw [live_iff m h c t', ht', Nat.mul_add_mod, Nat.mod_eq_of_lt (by omega)]
    have hp' : prod (iblk m hO c 0 t') (iblk m hO c 1 t') (ix2 a b)
        = chunkSum (A0 m c) (B0 m c) ⟨1152 * i + a, by omega⟩ b (chunk (cnt (tbl m)) r) := by
      refine (prod_iblk m hO h c t' a b).trans ?_
      have e1 : t'.val % 24 = r := by omega
      have e2 : t'.val / 24 = i.val := by omega
      simp only [e1, e2]
    have ih := ih (by omega) t' ht' hl' hp'
    have ep : t.val - 1 = t'.val := by omega
    by_cases h1 : r + 1 < total (cnt (tbl m))
    · refine (congrFun (acc_C m hO c t (by omega) (hl.mpr h1)) (ix2 a b)).trans ?_
      rw [Nat.min_eq_left (by omega)] at ih
      rw [Nat.min_eq_left (by omega), Finset.sum_range_succ _ (r + 1)]
      rw [ep]
      exact congrArg₂ (· + ·) (ht' ▸ ih) hp
    · rw [acc_D m hO c t (by omega) (fun x => h1 (hl.mp x)), ep, ht']
      rw [ht'] at ih
      rw [ih, Nat.min_eq_right (by omega), Nat.min_eq_right (by omega)]

/-- What the kernel leaves in its result. -/
def result (c : Dev nD) : Buf (Elt Ideal) ((c : Thread nD τ).loc main_v0) := fun y : S5760x2880.Idx =>
  (∑ k ∈ Finset.range (total (cnt (tbl m))), chunkSum (A0 m c) (B0 m c) (y 0) (y 1) (chunk (cnt (tbl m)) k) : EReal)

theorem total_le (h : InRange (tbl m)) : total (cnt (tbl m)) ≤ 24 := by
  have h0 := cnt_le _ h 0; have h1 := cnt_le _ h 1; have h2 := cnt_le _ h 2; have h3 := cnt_le _ h 3; have h4 := cnt_le _ h 4
  have h5 := cnt_le _ h 5
  unfold total; omega

theorem flushed_eq (hO : Ok m) (h : InRange (tbl m)) (c : Dev nD) (t : Fin (cfgM m hO).N) (hf : ((cfgM m hO).win 2).flush t = true) :
    (dats m hO 0 c).flushed 2 t = (((cfgM m hO).win 2).blk t).view.read (Elt Ideal) (result m c) := by
  have hN : (cfgM m hO).N = 120 := N_0
  have h23 := (flush0_2 (adm m hO) t).mp hf
  have hlt := t.isLt
  show ((cfgM m hO).win 2).cut (grid0.coords t) ((dats m hO 0 c).after 2 t) = _
  rw [after0_2]
  have key : ∀ y : S1152x2880.Idx, acc m hO c t.val y = (((cfgM m hO).win 2).blk t).view.read (Elt Ideal) (result m c) y := fun y => by
    have e : t.val = 24 * (⟨t.val / 24, by omega⟩ : Fin 5).val + 23 := by show t.val = 24 * (t.val / 24) + 23; omega
    have hi : (((cfgM m hO).win 2).blk t).view.emb y = (ix2 ⟨1152 * (t.val / 24) + (y 0).val, by have : (y 0).val < 1152 := (y 0).isLt; omega⟩ (y 1 : Fin 2880) : S5760x2880.Idx) := by
      have e0 : (grid0.coords t 0).val = t.val / 24 := coord0 t
      funext x
      apply Fin.ext
      match x with
      | ⟨0, _⟩ =>
        show (BitVec.ofNat 32 (grid0.coords t 0).val).toNat * 1152 + 1 * (y 0).val = 1152 * (t.val / 24) + (y 0).val
        rw [e0, WordArith.toNat_ofNat_of_lt _ (by omega)]; omega
      | ⟨1, _⟩ =>
        show 0 * 2880 + 1 * (y 1).val = (y 1).val
        omega
    show _ = result m c ((((cfgM m hO).win 2).blk t).view.emb y)
    have ha := acc_sum m hO h c ⟨t.val / 24, by omega⟩ (y 0) (y 1) 23 (by decide)
    rw [Nat.min_eq_right (total_le m h), ← e] at ha
    rw [hi]
    refine Eq.trans (congrArg _ (eq_ix2 y)) (ha.trans ?_)
    rfl
  exact funext key

end Cert.KernelIdeal.Own

end
-- ==== Proof.IFinal.lean ====
/- The kernel's run, read at its result: the array `result`, and that array in closed form where the words of the chunks no
   length reaches are zero. -/
module

public import proofs.«01_k».proof.Proof.ISum

@[expose] public section

set_option maxRecDepth 16384

noncomputable section

namespace Cert.KernelIdeal.Own

open Cert.KernelIdeal.Gen
open Idealize.ShloMosaic Idealize.ShloMosaic.TcCoe
open Idealize.SL Idealize.SL.Sem
open Idealize.ShloMosaic.Pipeline (Dat Cfg Window)
open Cert.Words

variable (m : (ℓ : Loc nD τ sig) → Buf (Elt Ideal) ℓ) (ρ : Dev nD → PrngReg)

/-- The last point of the row block an element lies in: the point that writes it back. -/
def lastPt (hO : Ok m) (i : S5760x2880.Idx) : Fin (cfgM m hO).N :=
  ⟨24 * ((i 0).val / 1152) + 23, by
    have h0 : (i 0).val < 5760 := (i 0).isLt
    exact Nat.lt_of_lt_of_eq (show _ < 120 by omega) (N_0 : (cfgM m hO).N = 120).symm⟩

/-- Every element of the result lies in the block the points of its row block have. -/
theorem mem_pt (hO : Ok m) (i : S5760x2880.Idx) (t : Fin (cfgM m hO).N) (ht : t.val / 24 = (i 0).val / 1152) : i ∈ (((cfgM m hO).win 2).blk t).view.set := by
  have h0 : (i 0).val < 5760 := (i 0).isLt
  have h1 : (i 1).val < 2880 := (i 1).isLt
  have e0 : ((cfgM m hO).win 2).index t (0 : Fin 2) = (i 0).val / 1152 := by
    have hc : (grid0.coords t 0).val = (i 0).val / 1152 := (coord0 t).trans ht
    show (BitVec.ofNat 32 (grid0.coords t 0).val).toNat = _
    rw [hc, WordArith.toNat_ofNat_of_lt _ (by omega)]
  have e1 : ((cfgM m hO).win 2).index t (1 : Fin 2) = 0 := rfl
  have hi : (((cfgM m hO).win 2).blk t).view.emb (ix2 (⟨(i 0).val % 1152, by omega⟩ : Fin 1152) (⟨(i 1).val, h1⟩ : Fin 2880)) = i := by
    funext a
    apply Fin.ext
    match a with
    | ⟨0, _⟩ =>
      refine (Pipeline.Window.rect_emb_val ((cfgM m hO).win 2) t (ix2 (⟨(i 0).val % 1152, by omega⟩ : Fin 1152) (⟨(i 1).val, h1⟩ : Fin 2880)) (0 : Fin 2)).trans ?_
      refine (congrArg (fun n : ℕ => n * 1152 + (i 0).val % 1152) e0).trans ?_
      show (i 0).val / 1152 * 1152 + (i 0).val % 1152 = (i 0).val
      omega
    | ⟨1, _⟩ =>
      refine (Pipeline.Window.rect_emb_val ((cfgM m hO).win 2) t (ix2 (⟨(i 0).val % 1152, by omega⟩ : Fin 1152) (⟨(i 1).val, h1⟩ : Fin 2880)) (1 : Fin 2)).trans ?_
      refine (congrArg (fun n : ℕ => n * 2880 + (i 1).val) e1).trans ?_
      show 0 * 2880 + (i 1).val = (i 1).val
      omega
  have hm := View.emb_mem_set (((cfgM m hO).win 2).blk t).view (ix2 (⟨(i 0).val % 1152, by omega⟩ : Fin 1152) (⟨(i 1).val, h1⟩ : Fin 2880))
  exact Eq.mp (congrArg (fun z : S5760x2880.Idx => z ∈ (((cfgM m hO).win 2).blk t).view.set) hi) hm

/-- The result array after the last point. -/
theorem final_o (hO : Ok m) (h : InRange (tbl m)) (c : Dev nD) : (dats m hO 0 c).arrAt 2 (cfgM m hO).N = result m c :=
  (dats m hO 0 c).arrAt_eq_of_cover 2 (result m c) (flushed_eq m hO h c) fun (i : S5760x2880.Idx) =>
    ⟨lastPt m hO i, (flush0_2 (adm m hO) (lastPt m hO i)).mpr (by show (24 * ((i 0).val / 1152) + 23) % 24 = 23; omega), mem_pt m hO i (lastPt m hO i) (by show (24 * ((i 0).val / 1152) + 23) / 24 = _; omega)⟩

/-- The run, read: the result array at the sum, the arguments unchanged. -/
theorem run (hO : Ok m) (h : InRange (tbl m)) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ g c => ⟨((g c).1 2).trans (final_o m hO h c),
      ((g c).1 0).trans (((dats m hO 0 c).arrAt_in 0 rfl _).trans ((A_eq m hO c 0).trans (V_main_arg0 m c))),
      ((g c).1 1).trans (((dats m hO 0 c).arrAt_in 1 rfl _).trans ((A_eq m hO c 1).trans (V_main_arg1 m c))),
      ((g c).2 main_arg2 (by decide : main_arg2 ∈ Pipeline.restRefs sig spec0)).trans (V_main_arg2 m c)⟩) (run_main m ρ hO)

/-! ## The closed form -/

/-- A sum over rows of halves, two to a word row. -/
theorem sum_pairs {M : Type*} [AddCommMonoid M] (g : ℕ → ℕ → M) (n : ℕ) :
    ∑ q ∈ Finset.range (2 * n), g (q / 2) (q % 2) = ∑ r ∈ Finset.range n, (g r 0 + g r 1) := by
  induction n with
  | zero => rfl
  | succ n ih =>
    rw [show 2 * (n + 1) = 2 * n + 1 + 1 by omega, Finset.sum_range_succ, Finset.sum_range_succ, Finset.sum_range_succ, ih, add_assoc,
      show 2 * n / 2 = n by omega, show 2 * n % 2 = 0 by omega, show (2 * n + 1) / 2 = n by omega, show (2 * n + 1) % 2 = 1 by omega]

/-- A sum over blocks of `k`. -/
theorem sum_blocks {M : Type*} [AddCommMonoid M] (f : ℕ → M) (k n : ℕ) :
    ∑ ch ∈ Finset.range n, ∑ r ∈ Finset.range k, f (k * ch + r) = ∑ r ∈ Finset.range (k * n), f r := by
  induction n with
  | zero => rfl
  | succ n ih => rw [Finset.sum_range_succ, ih, Nat.mul_succ, Finset.sum_range_add]

/-- The 24 chunks are the 6144 word rows, each with its two halves. -/
theorem sum_chunks (A : IVec S6144x5760 32) (B : IVec S6144x2944 32) (o : Fin 5760) (b : Fin 2880) :
    ∑ ch ∈ Finset.range 24, chunkSum A B o b ch
      = ∑ r ∈ Finset.range 6144, term A B o b r 0 + ∑ r ∈ Finset.range 6144, term A B o b r 1 := by
  rw [← Finset.sum_add_distrib]
  have h : ∀ ch, chunkSum A B o b ch = ∑ r ∈ Finset.range 256, (term A B o b (256 * ch + r) 0 + term A B o b (256 * ch + r) 1) := fun ch =>
    sum_pairs (fun r p => term A B o b (256 * ch + r) p) 256
  rw [Finset.sum_congr rfl fun ch _ => h ch]
  exact sum_blocks (fun r => term A B o b r 0 + term A B o b r 1) 256 24

theorem half_zero (p : ℕ) : half 0#32 p = 0 := by
  unfold half
  rw [show (0#32).extractLsb' (16 * p) 16 = 0#16 from BitVec.extractLsb'_zero]
  exact Ideal.ofBits_zero_bf16

/-- A chunk whose words of the first array are zero adds nothing. -/
theorem chunkSum_zero (A : IVec S6144x5760 32) (B : IVec S6144x2944 32) (o : Fin 5760) (b : Fin 2880) (ch : ℕ)
    (h : ∀ r : Fin 6144, r.val / 256 = ch → A (ix2 r o) = 0#32) : chunkSum A B o b ch = 0 := by
  unfold chunkSum
  refine Finset.sum_eq_zero fun q hq => ?_
  have hq := Finset.mem_range.mp hq
  unfold term
  split
  · rename_i hr
    rw [h ⟨256 * ch + q / 2, hr⟩ (by dsimp only; omega), half_zero, zero_mul]
  · rfl

/-- The result where no chunk beyond a length holds a nonzero word of the first array. -/
theorem result_eq (h : InRange (tbl m)) (c : Dev nD)
    (hz : ∀ (r : Fin 6144) (q : Fin 5760), (word (tbl m) ⟨r.val / 1024, by omega⟩).toNat ≤ r.val % 1024 / 256 * 512 → A0 m c (ix2 r q) = 0#32)
    (o : Fin 5760) (b : Fin 2880) :
    (result m c : S5760x2880.Idx → EReal) (ix2 o b)
      = ∑ r ∈ Finset.range 6144, term (A0 m c) (B0 m c) o b r 0 + ∑ r ∈ Finset.range 6144, term (A0 m c) (B0 m c) o b r 1 := by
  refine Eq.trans ?_ (sum_chunks (A0 m c) (B0 m c) o b)
  refine sum_live (cnt (tbl m)) (cnt_le _ h) (chunkSum (A0 m c) (B0 m c) o b) fun j l hl h4 => ?_
  refine chunkSum_zero _ _ o b _ fun r hr => hz r o ?_
  have hj := j.isLt
  have e : (⟨r.val / 1024, by omega⟩ : Fin 6) = j := Fin.ext (by dsimp only; omega)
  rw [e]
  have e2 : r.val % 1024 / 256 = l := by omega
  rw [e2]
  unfold cnt chunks at hl
  omega

end Cert.KernelIdeal.Own

end
-- ==== Proof.RefVal.lean ====
/- The reference's result, read at an index over the extended reals: the sum of the products of the low halves and the sum of
   the products of the high halves. -/
module

public import proofs.«01_k».proof.Proof.Gen.ReferenceIdeal.Run
public import proofs.«01_k».proof.Proof.ISum
public import Idealize.ShloMosaic.Lib.StackMember

@[expose] public section

set_option maxRecDepth 16384

noncomputable section

namespace Cert.ReferenceIdeal.Own

open Cert.ReferenceIdeal Cert.ReferenceIdeal.Gen
open Idealize.ShloMosaic
open Idealize.ShloMosaic.ValueIdx (contrEquiv1 contrEquiv1_symm_val)
open Cert.KernelIdeal.Own (half term)

/-- The reference's product, contracting the rows of both operands, read at an index. -/
theorem dot_apply (A : FVec Ideal S6144x5760 .bf16) (B : FVec Ideal S6144x2880 .bf16) (o : Fin 5760) (b : Fin 2880) :
    Host.dotGeneral dot_S6144x5760_S6144x2880_S5760x2880_0_0_1_1_n_n none A B (ix2 o b) = ∑ r : Fin 6144, A (ix2 r o) * B (ix2 r b) := by
  show FloatOps.dotGeneral _ none _ A B (ix2 o b) = _
  rw [Ideal.dotGeneral_apply, ← Equiv.sum_comp (contrEquiv1 dot_S6144x5760_S6144x2880_S5760x2880_0_0_1_1_n_n 6144 rfl rfl).symm]
  refine Finset.sum_congr rfl fun c _ => ?_
  have c2 := contrEquiv1_symm_val dot_S6144x5760_S6144x2880_S5760x2880_0_0_1_1_n_n 6144 rfl rfl c
  have l2 : dot_S6144x5760_S6144x2880_S5760x2880_0_0_1_1_n_n.lhsIdx (ix2 o b) ((contrEquiv1 _ 6144 rfl rfl).symm c) = ix2 c o := by
    funext ax; apply Fin.ext
    match ax with
    | ⟨0, _⟩ => simp [DotDims.lhsIdx, dot_S6144x5760_S6144x2880_S5760x2880_0_0_1_1_n_n]; exact c2
    | ⟨1, _⟩ => simp [DotDims.lhsIdx, dot_S6144x5760_S6144x2880_S5760x2880_0_0_1_1_n_n]; rfl
  have r2 : dot_S6144x5760_S6144x2880_S5760x2880_0_0_1_1_n_n.rhsIdx (ix2 o b) ((contrEquiv1 _ 6144 rfl rfl).symm c) = ix2 c b := by
    funext ax; apply Fin.ext
    match ax with
    | ⟨0, _⟩ => simp [DotDims.rhsIdx, dot_S6144x5760_S6144x2880_S5760x2880_0_0_1_1_n_n]; exact c2
    | ⟨1, _⟩ => simp [DotDims.rhsIdx, dot_S6144x5760_S6144x2880_S5760x2880_0_0_1_1_n_n]; rfl
  rw [l2, r2]

theorem drop_lhs (r : Fin 6144) (o : Fin 5760) (p : Fin 2) : splits_S6144x5760_w32_S6144x5760x2_w16.drop (ix3 r o p) = ix2 r o := by
  funext a
  match a with
  | ⟨0, _⟩ => rfl
  | ⟨1, _⟩ => rfl

theorem drop_rhs (r : Fin 6144) (b : Fin 2944) (p : Fin 2) : splits_S6144x2944_w32_S6144x2944x2_w16.drop (ix3 r b p) = ix2 r b := by
  funext a
  match a with
  | ⟨0, _⟩ => rfl
  | ⟨1, _⟩ => rfl

/-- Half 0 of the first array's words, as the reference takes it. -/
theorem lhs0 (x : IVec S6144x5760 32) (r : Fin 6144) (o : Fin 5760) :
    shapeCast S6144x5760 (extractStridedSlice S6144x5760x1 ![0, 0, 0] (bitcastToFloat (F := Ideal) .bf16 (Host.bitcastConvertNarrow S6144x5760x2 16 x splits_S6144x5760_w32_S6144x5760x2_w16)) slices_S6144x5760x2_S6144x5760x1_0_0_0) shapeCasts_S6144x5760x1_S6144x5760 (ix2 r o)
      = half (x (ix2 r o)) 0 := by
  pointwise
  rw [drop_lhs]
  rfl

/-- Half 0 of the second array's words, as the reference takes it. -/
theorem rhs0 (x : IVec S6144x2944 32) (r : Fin 6144) (b : Fin 2880) :
    shapeCast S6144x2880 (extractStridedSlice S6144x2880x1 ![0, 0, 0] (extractStridedSlice S6144x2880x2 ![0, 0, 0] (bitcastToFloat (F := Ideal) .bf16 (Host.bitcastConvertNarrow S6144x2944x2 16 x splits_S6144x2944_w32_S6144x2944x2_w16)) slices_S6144x2944x2_S6144x2880x2_0_0_0) slices_S6144x2880x2_S6144x2880x1_0_0_0) shapeCasts_S6144x2880x1_S6144x2880 (ix2 r b)
      = half (x (ix2 r ⟨b, by omega⟩)) 0 := by
  pointwise
  rw [drop_rhs]
  rfl

/-- Half 1 of the first array's words, as the reference takes it. -/
theorem lhs1 (x : IVec S6144x5760 32) (r : Fin 6144) (o : Fin 5760) :
    shapeCast S6144x5760 (extractStridedSlice S6144x5760x1 ![0, 0, 1] (bitcastToFloat (F := Ideal) .bf16 (Host.bitcastConvertNarrow S6144x5760x2 16 x splits_S6144x5760_w32_S6144x5760x2_w16)) slices_S6144x5760x2_S6144x5760x1_0_0_1) shapeCasts_S6144x5760x1_S6144x5760 (ix2 r o)
      = half (x (ix2 r o)) 1 := by
  pointwise
  rw [drop_lhs]
  rfl

/-- Half 1 of the second array's words, as the reference takes it. -/
theorem rhs1 (x : IVec S6144x2944 32) (r : Fin 6144) (b : Fin 2880) :
    shapeCast S6144x2880 (extractStridedSlice S6144x2880x1 ![0, 0, 1] (extractStridedSlice S6144x2880x2 ![0, 0, 0] (bitcastToFloat (F := Ideal) .bf16 (Host.bitcastConvertNarrow S6144x2944x2 16 x splits_S6144x2944_w32_S6144x2944x2_w16)) slices_S6144x2944x2_S6144x2880x2_0_0_0) slices_S6144x2880x2_S6144x2880x1_0_0_1) shapeCasts_S6144x2880x1_S6144x2880 (ix2 r b)
      = half (x (ix2 r ⟨b, by omega⟩)) 1 := by
  pointwise
  rw [drop_rhs]
  rfl

/-- A sum of products of halves over the rows, as the sum of terms. -/
theorem sum_term (A : IVec S6144x5760 32) (B : IVec S6144x2944 32) (o : Fin 5760) (b : Fin 2880) (p : ℕ) :
    ∑ r : Fin 6144, half (A (ix2 r o)) p * half (B (ix2 r ⟨b, by omega⟩)) p = ∑ r ∈ Finset.range 6144, term A B o b r p := by
  rw [Finset.sum_range]
  refine Finset.sum_congr rfl fun r _ => ?_
  unfold term
  rw [dif_pos r.isLt]

/-- The reference's result at an index. -/
theorem value_eq (A : IVec S6144x5760 32) (B : IVec S6144x2944 32) (o : Fin 5760) (b : Fin 2880) :
    addf (F := Ideal) (Host.dotGeneral dot_S6144x5760_S6144x2880_S5760x2880_0_0_1_1_n_n none (shapeCast _ (extractStridedSlice S6144x5760x1 ![0, 0, 0] (bitcastToFloat (F := Ideal) .bf16 (Host.bitcastConvertNarrow S6144x5760x2 16 A splits_S6144x5760_w32_S6144x5760x2_w16)) slices_S6144x5760x2_S6144x5760x1_0_0_0) shapeCasts_S6144x5760x1_S6144x5760) (shapeCast _ (extractStridedSlice S6144x2880x1 ![0, 0, 0] (extractStridedSlice S6144x2880x2 ![0, 0, 0] (bitcastToFloat (F := Ideal) .bf16 (Host.bitcastConvertNarrow S6144x2944x2 16 B splits_S6144x2944_w32_S6144x2944x2_w16)) slices_S6144x2944x2_S6144x2880x2_0_0_0) slices_S6144x2880x2_S6144x2880x1_0_0_0) shapeCasts_S6144x2880x1_S6144x2880)) (Host.dotGeneral dot_S6144x5760_S6144x2880_S5760x2880_0_0_1_1_n_n none (shapeCast _ (extractStridedSlice S6144x5760x1 ![0, 0, 1] (bitcastToFloat (F := Ideal) .bf16 (Host.bitcastConvertNarrow S6144x5760x2 16 A splits_S6144x5760_w32_S6144x5760x2_w16)) slices_S6144x5760x2_S6144x5760x1_0_0_1) shapeCasts_S6144x5760x1_S6144x5760) (shapeCast _ (extractStridedSlice S6144x2880x1 ![0, 0, 1] (extractStridedSlice S6144x2880x2 ![0, 0, 0] (bitcastToFloat (F := Ideal) .bf16 (Host.bitcastConvertNarrow S6144x2944x2 16 B splits_S6144x2944_w32_S6144x2944x2_w16)) slices_S6144x2944x2_S6144x2880x2_0_0_0) slices_S6144x2880x2_S6144x2880x1_0_0_1) shapeCasts_S6144x2880x1_S6144x2880)) (ix2 o b)
      = ∑ r ∈ Finset.range 6144, term A B o b r 0 + ∑ r ∈ Finset.range 6144, term A B o b r 1 := by
  refine (congrArg₂ (fun (u v : EReal) => u + v) (dot_apply _ _ o b) (dot_apply _ _ o b)).trans ?_
  refine congrArg₂ (fun (u v : EReal) => u + v) ?_ ?_
  · refine Eq.trans (Finset.sum_congr rfl fun r _ => ?_) (sum_term A B o b 0)
    exact congrArg₂ (fun (u v : EReal) => u * v) (lhs0 A r o) (rhs0 B r b)
  · refine Eq.trans (Finset.sum_congr rfl fun r _ => ?_) (sum_term A B o b 1)
    exact congrArg₂ (fun (u v : EReal) => u * v) (lhs1 A r o) (rhs1 B r b)

end Cert.ReferenceIdeal.Own

end
-- ==== Proof.Pre.lean ====
/- What the two preconditions say: every length is between 0 and 2048, and the words of a chunk no length reaches are zero. -/
module

public import proofs.«01_k».proof.Proof.Gen.Pre_in_range
public import proofs.«01_k».proof.Proof.Gen.Pre_padded
public import Idealize.ShloMosaic.Lib.Pointwise
public import Idealize.ShloMosaic.Lib.ReduceAll
public import Idealize.ShloMosaic.Lib.WordArith

@[expose] public section

set_option maxRecDepth 16384

noncomputable section

namespace Cert.Own

open Idealize.ShloMosaic

theorem andi_one {a b : BitVec 1} (h : IntOp.andi a b = 1#1) : a = 1#1 ∧ b = 1#1 := by
  revert a b; decide

theorem ori_one {a b : BitVec 1} (h : IntOp.ori a b = 1#1) : a = 1#1 ∨ b = 1#1 := by
  revert a b; decide

/-- A word signed-between 0 and 2048 is at most 2048 as a natural number. -/
theorem range_of_bits (w : BitVec 32) (h0 : IntOp.cmpi .sge w 0#32 = 1#1) (h1 : IntOp.cmpi .sle w 2048#32 = 1#1) : w.toNat ≤ 2048 := by
  unfold IntOp.cmpi at h0 h1
  rw [WordArith.ofBool_eq_one_iff] at h0 h1
  dsimp only at h0 h1
  rw [BitVec.sle_eq_decide, decide_eq_true_eq] at h0 h1
  have e0 : (0#32 : BitVec 32).toInt = 0 := by decide
  have e1 : (2048#32 : BitVec 32).toInt = 2048 := by decide
  rw [e0] at h0; rw [e1] at h1
  have e := BitVec.toInt_eq_toNat_cond w
  have := w.isLt
  split at e <;> omega

/-- The first row of the chunk of 512 rows that row pair `n` lies in. -/
theorem start_all : ∀ n : Fin 1024, IntOp.shli ArithUnit.host (IntOp.shrsi ArithUnit.host (BitVec.ofNat 32 n.val) 8#32) 9#32
    = BitVec.ofNat 32 (n.val / 256 * 512) := by decide +kernel

/-- A length no greater than a chunk's first row does not reach the chunk. -/
theorem dead_of_le (n : ℕ) (hn : n < 1024) (w : BitVec 32) (hw : w.toNat ≤ n / 256 * 512) :
    IntOp.cmpi .sge (IntOp.shli ArithUnit.host (IntOp.shrsi ArithUnit.host (BitVec.ofNat 32 n) 8#32) 9#32) w = 1#1 := by
  rw [start_all ⟨n, hn⟩]
  unfold IntOp.cmpi
  rw [WordArith.ofBool_eq_one_iff]
  dsimp only
  rw [BitVec.sle_eq_decide, decide_eq_true_eq, WordArith.toInt_ofNat_small _ (by omega), BitVec.toInt_eq_toNat_of_lt (by omega)]
  omega

variable {F : FTy → Type} [FloatOps F]

theorem in_range_iff (a0 : IVec ⟨2, ![6144, 5760]⟩ 32) (a1 : IVec ⟨2, ![6144, 2944]⟩ 32) (a2 : IVec ⟨1, ![6]⟩ 32)
    (h : Cert.Pre_in_range.fn (F := F) a0 a1 a2 = fun _ => 1#1) (k : Fin 6) : (a2 (ix1 k)).toNat ≤ 2048 := by
  have e := congrFun h (fun i => i.elim0)
  unfold Cert.Pre_in_range.fn at e
  have : Subsingleton Cert.Pre_in_range.S_.Idx := ⟨fun a b => funext fun i => i.elim0⟩
  have := Host.reduce_andi_all _ _ _ _ _ e (ix1 k)
  have := andi_one this
  exact range_of_bits _ this.1 this.2

theorem padded_iff (a0 : IVec ⟨2, ![6144, 5760]⟩ 32) (a1 : IVec ⟨2, ![6144, 2944]⟩ 32) (a2 : IVec ⟨1, ![6]⟩ 32)
    (h : Cert.Pre_padded.fn (F := F) a0 a1 a2 = fun _ => 1#1) :
    (∀ k : Fin 6, (a2 (ix1 k)).toNat ≤ 2048)
    ∧ ∀ (r : Fin 6144) (q : Fin 5760), (a2 (ix1 ⟨r / 1024, by omega⟩)).toNat ≤ r % 1024 / 256 * 512 → a0 (ix2 r q) = 0#32 := by
  have e := congrFun h (fun i => i.elim0)
  unfold Cert.Pre_padded.fn Cert.Pre_padded.fn_part1 at e
  have : Subsingleton Cert.Pre_padded.S_.Idx := ⟨fun a b => funext fun i => i.elim0⟩
  obtain ⟨eA, eB⟩ := andi_one e
  have hr : ∀ k : Fin 6, (a2 (ix1 k)).toNat ≤ 2048 := fun k => by
    have := andi_one (Host.reduce_andi_all _ _ _ _ _ eA (ix1 k))
    exact range_of_bits _ this.1 this.2
  refine ⟨hr, fun r q hd => ?_⟩
  rcases ori_one (Host.reduce_andi_all _ _ _ _ _ eB (ix2 r q)) with h1 | h1
  · exfalso
    revert h1
    pointwise
    rw [dead_of_le _ (Nat.mod_lt _ (by decide)) _ hd]
    decide
  · have h2 : IntOp.cmpi .eq (a0 (ix2 r q)) 0#32 = 1#1 := h1
    unfold IntOp.cmpi at h2
    rw [WordArith.ofBool_eq_one_iff] at h2
    simpa using h2

end Cert.Own

end
-- ==== Proof.lean ====
/- The proof of the claim.

   The frames of the kernel and of its idealized form are proved for any table of lengths the launch may read (`Own.frame`);
   the precondition gives that (`Own.ok_of_range`). The idealized kernel's result is the sum, over the live chunks, of the
   products of the chunk's rows (`Own.run`); where the words of the other chunks are zero that is the sum over all rows
   (`Own.result_eq`), which is what the reference computes (`Own.value_eq`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.Gen.Pre_padded
public import proofs.«01_k».proof.Proof.KFrame
public import proofs.«01_k».proof.Proof.KTable
public import proofs.«01_k».proof.Proof.IFinal
public import proofs.«01_k».proof.Proof.RefVal
public import proofs.«01_k».proof.Proof.Pre
public import Idealize.ShloMosaic.Lib.Bf16PairInverse
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

-- the side conditions the programs and preconditions state, as generated
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_in_range.Facts := Cert.Pre_in_range.Gen.facts
local instance : Cert.Pre_padded.Facts := Cert.Pre_padded.Gen.facts

/-! ## Kernel: the lengths' bound from the precondition -/

theorem word_k (m : (ℓ : Loc Cert.Kernel.nD Cert.Kernel.τ Cert.Kernel.sig) → Buf (Elt Bits) ℓ) (k : Fin 6) :
    Cert.Kernel.Own.word (Cert.Kernel.Own.tbl m) k
      = (m (((0 : Dev Cert.Kernel.nD).tc : Thread Cert.Kernel.nD Cert.Kernel.τ).loc Cert.Kernel.main_arg2) : IVec ⟨1, ![6]⟩ 32) (ix1 k) := by
  unfold Cert.Kernel.Own.word
  refine congrArg (m (((0 : Dev Cert.Kernel.nD).tc : Thread Cert.Kernel.nD Cert.Kernel.τ).loc Cert.Kernel.main_arg2) : IVec ⟨1, ![6]⟩ 32) (funext fun a => ?_)
  match a with
  | ⟨0, _⟩ => rfl

theorem inRange_k (m : (ℓ : Loc Cert.Kernel.nD Cert.Kernel.τ Cert.Kernel.sig) → Buf (Elt Bits) ℓ) (h : Pre_Kernel m) :
    Cert.Kernel.Own.InRange (Cert.Kernel.Own.tbl m) := fun k => by
  rw [word_k]
  exact Cert.Own.in_range_iff _ _ _ (h 0) k

theorem frame_k : quiescent_Kernel := fun m g h => Cert.Kernel.Own.frame m g (Cert.Kernel.Own.ok_of_range _ (inRange_k m h))

/-! ## KernelIdeal: the lengths' bound from the precondition -/

theorem word_i (m : (ℓ : Loc Cert.KernelIdeal.nD Cert.KernelIdeal.τ Cert.KernelIdeal.sig) → Buf (Elt Ideal) ℓ) (k : Fin 6) :
    Cert.KernelIdeal.Own.word (Cert.KernelIdeal.Own.tbl m) k
      = (m (((0 : Dev Cert.KernelIdeal.nD).tc : Thread Cert.KernelIdeal.nD Cert.KernelIdeal.τ).loc Cert.KernelIdeal.main_arg2) : IVec ⟨1, ![6]⟩ 32) (ix1 k) := by
  unfold Cert.KernelIdeal.Own.word
  refine congrArg (m (((0 : Dev Cert.KernelIdeal.nD).tc : Thread Cert.KernelIdeal.nD Cert.KernelIdeal.τ).loc Cert.KernelIdeal.main_arg2) : IVec ⟨1, ![6]⟩ 32) (funext fun a => ?_)
  match a with
  | ⟨0, _⟩ => rfl

theorem inRange_i (m : (ℓ : Loc Cert.KernelIdeal.nD Cert.KernelIdeal.τ Cert.KernelIdeal.sig) → Buf (Elt Ideal) ℓ) (h : Pre_KernelIdeal m) :
    Cert.KernelIdeal.Own.InRange (Cert.KernelIdeal.Own.tbl m) := fun k => by
  rw [word_i]
  exact Cert.Own.in_range_iff _ _ _ (h 0) k

theorem frame_i : quiescent_KernelIdeal := fun m g h => Cert.KernelIdeal.Own.frame m g (Cert.KernelIdeal.Own.ok_of_range _ (inRange_i m h))

theorem inRange_padded (m : (ℓ : Loc Cert.KernelIdeal.nD Cert.KernelIdeal.τ Cert.KernelIdeal.sig) → Buf (Elt Ideal) ℓ)
    (h : Pre_KernelIdeal_padded m) : Cert.KernelIdeal.Own.InRange (Cert.KernelIdeal.Own.tbl m) := fun k => by
  rw [word_i]
  exact (Cert.Own.padded_iff _ _ _ (h 0)).1 k

theorem frame_i_padded : quiescent_KernelIdeal_pre_padded := fun m g h =>
  Cert.KernelIdeal.Own.frame m g (Cert.KernelIdeal.Own.ok_of_range _ (inRange_padded m h))

/-! ## The reference's frame: a host program with no semaphore -/

theorem frame_r : quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_r_padded : quiescent_ReferenceIdeal_pre_padded := fun m g _ => frame_r m g trivial

/-! ## The idealization and the value -/

theorem preserves : preserves_Kernel_KernelIdeal :=
  ⟨IdealRules.bf16_pair.bufferStatement _ _, IdealRules.bf16_pair.statement _ _, IdealRules.bf16_pair.statement _ _⟩

/-- The idealized kernel's result is the reference's, from memories that agree on the arguments. -/
theorem value (m : (ℓ : Loc Cert.KernelIdeal.nD Cert.KernelIdeal.τ Cert.KernelIdeal.sig) → Buf (Elt Ideal) ℓ)
    (h : Pre_KernelIdeal_padded m) (c : Dev Cert.KernelIdeal.nD) (o : Fin 5760) (b : Fin 2880) :
    (Cert.KernelIdeal.Own.result m c : Cert.KernelIdeal.S5760x2880.Idx → EReal) (ix2 o b)
      = ∑ r ∈ Finset.range 6144, Cert.KernelIdeal.Own.term (Cert.KernelIdeal.Own.A0 m c) (Cert.KernelIdeal.Own.B0 m c) o b r 0
        + ∑ r ∈ Finset.range 6144, Cert.KernelIdeal.Own.term (Cert.KernelIdeal.Own.A0 m c) (Cert.KernelIdeal.Own.B0 m c) o b r 1 := by
  refine Cert.KernelIdeal.Own.result_eq m (inRange_padded m h) c (fun r q hl => ?_) o b
  obtain rfl : c = 0 := Subsingleton.elim _ _
  rw [word_i] at hl
  exact (Cert.Own.padded_iff _ _ _ (h 0)).2 r q hl

theorem algebraic : algebraic_KernelIdeal_ReferenceIdeal_pre_padded := fun m g m' g' h hm =>
  ⟨Cert.KernelIdeal.Own.result m,
    Cert.KernelIdeal.Own.run m g (Cert.KernelIdeal.Own.ok_of_range _ (inRange_padded m h)) (inRange_padded m h),
    (θ_run Cert.ReferenceIdeal.defs _ _).mono (fun r hr c => ⟨(hr c).1.trans (by
      rw [(hm c).1, (hm c).2.1]
      funext (y : Cert.KernelIdeal.S5760x2880.Idx)
      rw [eq_ix2 y]
      exact (Cert.ReferenceIdeal.Own.value_eq _ _ _ _).trans (value m h c _ _).symm), (hr c).2⟩)
      (Cert.ReferenceIdeal.Value.run m' g')⟩

theorem claim : Cert.Claim :=
  ⟨Cert.Kernel.Gen.facts, Cert.KernelIdeal.Gen.facts, Cert.ReferenceIdeal.Gen.facts, Cert.Pre_in_range.Gen.facts, Cert.Pre_padded.Gen.facts,
    frame_k, frame_i, frame_i_padded, frame_r, frame_r_padded, preserves, algebraic⟩

end Cert.Proof

end
